-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "ten_log2e" .f32 0x4166D4CA#32 ((10 * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x64x64 : Shape := ⟨4, ![4, 64, 64, 64]⟩
abbrev S16x64 : Shape := ⟨2, ![16, 64]⟩
abbrev S16 : Shape := ⟨1, ![16]⟩
abbrev S64x16 : Shape := ⟨2, ![64, 16]⟩
abbrev S64 : Shape := ⟨1, ![64]⟩
abbrev S_ : Shape := ⟨0, ![]⟩

class Facts : Prop where
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S16 .f32) (main_arg5 : FVec F S16x64 .f32) (main_arg7 : FVec F S64x16 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64x16 .f32 := Host.absf main_arg7
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  main_v33

def fn {F : FTy → Type} [FloatOps F] (main_arg0 : FVec F S4x64x64x64 .f32) (main_arg1 : FVec F S16x64 .f32) (main_arg2 : FVec F S16 .f32) (main_arg3 : FVec F S16x64 .f32) (main_arg4 : FVec F S16 .f32) (main_arg5 : FVec F S16x64 .f32) (main_arg6 : FVec F S16 .f32) (main_arg7 : FVec F S64x16 .f32) (main_arg8 : FVec F S64 .f32) : IVec S_ 1 :=
  let main_v0 : FVec F S4x64x64x64 .f32 := Host.absf main_arg0
  let main_cst : FVec F S_ .f32 := constant S_ .f32 0x7F800000#32
  let main_v1 : FVec F S4x64x64x64 .f32 := broadcastInDim S4x64x64x64 ![] bcast_S_S4x64x64x64 main_cst
  let main_v2 : IVec S4x64x64x64 1 := cmpf .olt main_v0 main_v1
  let main_c : IVec S_ 1 := constantI S_ 1 1#1
  let main_v3 : IVec S_ 1 := (fun x v => Host.reduce IntOp.andi x v reducesTo_S4x64x64x64_S_d0_1_2_3 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg4 main_arg5 main_arg7 main_v13 main_v16
-- ==== Kernel.lean ====
abbrev S4x64x64x64 : Shape := ⟨4, ![4, 64, 64, 64]⟩
abbrev S16x64 : Shape := ⟨2, ![16, 64]⟩
abbrev S16 : Shape := ⟨1, ![16]⟩
abbrev S64x16 : Shape := ⟨2, ![64, 16]⟩
abbrev S64 : Shape := ⟨1, ![64]⟩
abbrev S4x64x4096 : Shape := ⟨3, ![4, 64, 4096]⟩
abbrev S16x1 : Shape := ⟨2, ![16, 1]⟩
abbrev S64x1 : Shape := ⟨2, ![64, 1]⟩
abbrev S1x64x4096 : Shape := ⟨3, ![1, 64, 4096]⟩
abbrev S1x64x1024 : Shape := ⟨3, ![1, 64, 1024]⟩
abbrev S16x4096 : Shape := ⟨2, ![16, 4096]⟩
abbrev S72x4096 : Shape := ⟨2, ![72, 4096]⟩
abbrev S64x4096 : Shape := ⟨2, ![64, 4096]⟩
abbrev S8x4096 : Shape := ⟨2, ![8, 4096]⟩
abbrev S64x1024 : Shape := ⟨2, ![64, 1024]⟩
abbrev S16x1024 : Shape := ⟨2, ![16, 1024]⟩
abbrev S1024x4096 : Shape := ⟨2, ![1024, 4096]⟩
abbrev S1024 : Shape := ⟨1, ![1024]⟩
abbrev S1024x1 : Shape := ⟨2, ![1024, 1]⟩
abbrev S72x1024 : Shape := ⟨2, ![72, 1024]⟩
abbrev S1x1024 : Shape := ⟨2, ![1, 1024]⟩

abbrev nBuf : Space → Nat
  | .hbm => 16
  | .vmem => 16
  | .smem => 0
  | _ => 0

abbrev bufTy : (tb : Table) → Fin (tcTables nBuf tb) → BufTy
  | .hbm, ⟨0, _⟩ => ⟨S4x64x64x64, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S16x64, .f32⟩
  | .hbm, ⟨6, _⟩ => ⟨S16, .f32⟩
  | .hbm, ⟨7, _⟩ => ⟨S64x16, .f32⟩
  | .hbm, ⟨8, _⟩ => ⟨S64, .f32⟩
  | .hbm, ⟨9, _⟩ => ⟨S4x64x4096, .f32⟩
  | .hbm, ⟨10, _⟩ => ⟨S16x1, .f32⟩
  | .hbm, ⟨11, _⟩ => ⟨S16x1, .f32⟩
  | .hbm, ⟨12, _⟩ => ⟨S16x1, .f32⟩
  | .hbm, ⟨13, _⟩ => ⟨S64x1, .f32⟩
  | .hbm, ⟨14, _⟩ => ⟨S4x64x4096, .f32⟩
  | .hbm, ⟨15, _⟩ => ⟨S4x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S1x64x1024, .f32⟩
  | .local _ .vmem, ⟨3, _⟩ => ⟨S1x64x1024, .f32⟩
  | .local _ .vmem, ⟨4, _⟩ => ⟨S16x64, .f32⟩
  | .local _ .vmem, ⟨5, _⟩ => ⟨S16x1, .f32⟩
  | .local _ .vmem, ⟨6, _⟩ => ⟨S16x64, .f32⟩
  | .local _ .vmem, ⟨7, _⟩ => ⟨S16x1, .f32⟩
  | .local _ .vmem, ⟨8, _⟩ => ⟨S16x64, .f32⟩
  | .local _ .vmem, ⟨9, _⟩ => ⟨S16x1, .f32⟩
  | .local _ .vmem, ⟨10, _⟩ => ⟨S64x16, .f32⟩
  | .local _ .vmem, ⟨11, _⟩ => ⟨S64x1, .f32⟩
  | .local _ .vmem, ⟨12, _⟩ => ⟨S1x64x1024, .f32⟩
  | .local _ .vmem, ⟨13, _⟩ => ⟨S1x64x1024, .f32⟩
  | .local _ .vmem, ⟨14, _⟩ => ⟨S16x4096, .bf16⟩
  | .local _ .vmem, ⟨15, _⟩ => ⟨S72x4096, .bf16⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ten_log2e" => some ((10 * (Real.log 2)⁻¹ : ℝ) : EReal)
  | _ => none
-- ==== ReferenceIdeal.lean ====
abbrev S4x64x64x64 : Shape := ⟨4, ![4, 64, 64, 64]⟩
abbrev S16x64 : Shape := ⟨2, ![16, 64]⟩
abbrev S16 : Shape := ⟨1, ![16]⟩
abbrev S64x16 : Shape := ⟨2, ![64, 16]⟩
abbrev S64 : Shape := ⟨1, ![64]⟩
abbrev S16x4x64x64 : Shape := ⟨4, ![16, 4, 64, 64]⟩
abbrev S4x16x64x64 : Shape := ⟨4, ![4, 16, 64, 64]⟩
abbrev S1x16x1x1 : Shape := ⟨4, ![1, 16, 1, 1]⟩
abbrev S4x16x4096 : Shape := ⟨3, ![4, 16, 4096]⟩
abbrev S4x4096x16 : Shape := ⟨3, ![4, 4096, 16]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S64x4x64x64 : Shape := ⟨4, ![64, 4, 64, 64]⟩
abbrev S1x64x1x1 : Shape := ⟨4, ![1, 64, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x64x64x64, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S16, .f32⟩
  | .hbm, ⟨5, _⟩ => ⟨S16x64, .f32⟩
  | .hbm, ⟨6, _⟩ => ⟨S16, .f32⟩
  | .hbm, ⟨7, _⟩ => ⟨S64x16, .f32⟩
  | .hbm, ⟨8, _⟩ => ⟨S64, .f32⟩
  | .hbm, ⟨9, _⟩ => ⟨S16x4x64x64, .f32⟩
  | .hbm, ⟨10, _⟩ => ⟨S4x16x64x64, .f32⟩
  | .hbm, ⟨11, _⟩ => ⟨S1x16x1x1, .f32⟩
  | .hbm, ⟨12, _⟩ => ⟨S4x16x64x64, .f32⟩
  | .hbm, ⟨13, _⟩ => ⟨S4x16x64x64, .f32⟩
  | .hbm, ⟨14, _⟩ => ⟨S4x16x4096, .f32⟩
  | .hbm, ⟨15, _⟩ => ⟨S4x4096x16, .f32⟩
  | .hbm, ⟨16, _⟩ => ⟨S16x4x64x64, .f32⟩
  | .hbm, ⟨17, _⟩ => ⟨S4x16x64x64, .f32⟩
  | .hbm, ⟨18, _⟩ => ⟨S1x16x1x1, .f32⟩
  | .hbm, ⟨19, _⟩ => ⟨S4x16x64x64, .f32⟩
  | .hbm, ⟨20, _⟩ => ⟨S4x16x64x64, .f32⟩
  | .hbm, ⟨21, _⟩ => ⟨S4x16x4096, .f32⟩
  | .hbm, ⟨22, _⟩ => ⟨S16x4x64x64, .f32⟩
  | .hbm, ⟨23, _⟩ => ⟨S4x16x64x64, .f32⟩
  | .hbm, ⟨24, _⟩ => ⟨S1x16x1x1, .f32⟩
  | .hbm, ⟨25, _⟩ => ⟨S4x16x64x64, .f32⟩
  | .hbm, ⟨26, _⟩ => ⟨S4x16x64x64, .f32⟩
  | .hbm, ⟨27, _⟩ => ⟨S4x16x4096, .f32⟩
  | .hbm, ⟨28, _⟩ => ⟨S4x4096x16, .f32⟩
  | .hbm, ⟨29, _⟩ => ⟨S4x4096x4096, .f32⟩
  | .hbm, ⟨30, _⟩ => ⟨S_, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S4x4096x16, .f32⟩
  | .hbm, ⟨48, _⟩ => ⟨S4x16x4096, .f32⟩
  | .hbm, ⟨49, _⟩ => ⟨S4x16x64x64, .f32⟩
  | .hbm, ⟨50, _⟩ => ⟨S64x4x64x64, .f32⟩
  | .hbm, ⟨51, _⟩ => ⟨S4x64x64x64, .f32⟩
  | .hbm, ⟨52, _⟩ => ⟨S1x64x1x1, .f32⟩
  | .hbm, ⟨53, _⟩ => ⟨S4x64x64x64, .f32⟩
  | .hbm, ⟨54, _⟩ => ⟨S4x64x64x64, .f32⟩
  | .hbm, ⟨55, _⟩ => ⟨S4x64x64x64, .f32⟩
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Attn.lean ====
module

public import Idealize.ShloMosaic.PureOps.Ideal.Laws

/-! # Attention for one query, over the extended reals

No array occurs here. A query has a score `F j` against each key `j`; a value row `r` holds
`G r j + b r` at key `j`, where the bias `b r` may be infinite. Two ways to reach an output channel
are compared: mixing the rows with `w` first and dividing by the sum of the exponentials last, or
dividing every exponential first and mixing last. -/

@[expose] public section

namespace Attn

open Idealize.ShloMosaic

variable {J R : Type} [Fintype J] [Fintype R]

/-- A real sum is the same summed inside or outside the reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor goes into a sum whose first term is real. -/
theorem mul_coe_add (w g : ℝ) (b : EReal) : (w : EReal) * (g + b) = ((w * g : ℝ) : EReal) + w * b := by
  induction b using EReal.rec with
  | coe b => rw [← EReal.coe_add, ← EReal.coe_mul, ← EReal.coe_mul, ← EReal.coe_add, mul_add]
  | bot =>
    rcases lt_trichotomy w 0 with h | h | h
    · simp [EReal.coe_mul_bot_of_neg h, ← EReal.coe_mul]
    · simp [h]
    · simp [EReal.coe_mul_bot_of_pos h]
  | top =>
    rcases lt_trichotomy w 0 with h | h | h
    · simp [EReal.coe_mul_top_of_neg h]
    · simp [h]
    · simp [EReal.coe_mul_top_of_pos h, ← EReal.coe_mul]

/-- The same with the factor on the right. -/
theorem coe_add_mul (g : ℝ) (b : EReal) (w : ℝ) : ((g : EReal) + b) * w = ((g * w : ℝ) : EReal) + b * w := by
  rw [mul_comm, mul_coe_add, mul_comm w g, mul_comm (w : EReal) b]

/-- A constant, even an infinite one, comes out of a sum against weights that are not negative. -/
theorem sum_const_mul (B : EReal) (s : Finset J) (E : J → ℝ) (hE : ∀ j, 0 ≤ E j) :
    ∑ j ∈ s, B * (E j : EReal) = B * ((∑ j ∈ s, E j : ℝ) : EReal) := by
  classical
  induction s using Finset.induction_on with
  | empty => simp
  | insert a s ha ih =>
    rw [Finset.sum_insert ha, Finset.sum_insert ha, ih, EReal.coe_add,
      EReal.left_distrib_of_nonneg (by exact_mod_cast hE a)
        (by exact_mod_cast Finset.sum_nonneg fun j _ => hE j)]

/-- A finite family of reals has a largest member, and scaling by ten keeps it the largest. -/
theorem exists_max [Nonempty J] (F : J → ℝ) :
    ∃ M : ℝ, Finset.univ.fold max (⊥ : EReal) (fun j => (F j : EReal)) = M ∧
      Finset.univ.fold max (⊥ : EReal) (fun j => ((F j * 10 : ℝ) : EReal)) = ((M * 10 : ℝ) : EReal) := by
  classical
  obtain ⟨i, -, hi⟩ := Finset.exists_max_image Finset.univ F Finset.univ_nonempty
  refine ⟨F i, le_antisymm ?_ ?_, le_antisymm ?_ ?_⟩
  · exact Finset.fold_max_le _ |>.mpr ⟨bot_le, fun j hj => by exact_mod_cast hi j hj⟩
  · exact Finset.le_fold_max _ |>.mpr (.inr ⟨i, Finset.mem_univ i, le_rfl⟩)
  · exact Finset.fold_max_le _ |>.mpr ⟨bot_le, fun j hj => by
      have := hi j hj
      exact_mod_cast (by linarith : F j * 10 ≤ F i * 10)⟩
  · exact Finset.le_fold_max _ |>.mpr (.inr ⟨i, Finset.mem_univ i, le_rfl⟩)

/-- Ten over the logarithm of two: the factor by which a power of two becomes the exponential of ten times. -/
noncomputable def scale : EReal := ((10 * (Real.log 2)⁻¹ : ℝ) : EReal)

/-- The exponentials by powers of two: scores less the greatest, scaled, as a power of two. -/
noncomputable def pow2 (f : J → EReal) (j : J) : EReal :=
  Ideal.exp2 ((f j - Finset.univ.fold max ⊥ f) * scale)

/-- The exponentials of the scaled scores less the greatest of them. -/
noncomputable def expo (f : J → EReal) (j : J) : EReal :=
  Ideal.exp (f j * ((10 : ℝ) : EReal) - max ⊥ (Finset.univ.fold max ⊥ fun i => f i * ((10 : ℝ) : EReal)))

/-- On real scores both ways give the same positive real exponentials. -/
theorem exponentials [Nonempty J] (F : J → ℝ) : ∃ E : J → ℝ, (∀ j, 0 < E j) ∧
    (∀ j, pow2 (fun i => (F i : EReal)) j = E j) ∧ ∀ j, expo (fun i => (F i : EReal)) j = E j := by
  obtain ⟨M, h1, h2⟩ := exists_max F
  refine ⟨fun j => Real.exp (F j * 10 - M * 10), fun j => Real.exp_pos _, fun j => ?_, fun j => ?_⟩
  · unfold pow2 scale
    rw [h1, ← EReal.coe_sub, ← EReal.coe_mul, Ideal.exp2_coe]
    congr 1
    show (2 : ℝ) ^ ((F j - M) * (10 * (Real.log 2)⁻¹)) = _
    rw [Real.rpow_def_of_pos two_pos]
    congr 1
    have : Real.log 2 ≠ 0 := (Real.log_pos one_lt_two).ne'
    field_simp
  · unfold expo
    simp only [← EReal.coe_mul]
    rw [h2, max_eq_right bot_le, ← EReal.coe_sub, Ideal.exp_coe]

/-- Rows mixed first and divided last. -/
noncomputable def mixed (w : R → EReal) (g : R → J → EReal) (e : J → EReal) : EReal :=
  Ideal.div (∑ j, (∑ r, w r * g r j) * e j) (∑ j, 1 * e j)

/-- Divided first and mixed last. -/
noncomputable def normed (w : R → EReal) (g : R → J → EReal) (e : J → EReal) : EReal :=
  ∑ r, w r * ∑ j, Ideal.div (e j) (∑ i, e i) * g r j

/-- Both orders give one value: the biases may be infinite, all else is real. -/
theorem mixed_eq_normed [Nonempty J] (w : R → ℝ) (G : R → J → ℝ) (b : R → EReal) (E : J → ℝ)
    (hE : ∀ j, 0 < E j) :
    mixed (fun r => (w r : EReal)) (fun r j => (G r j : EReal) + b r) (fun j => (E j : EReal)) =
      normed (fun r => (w r : EReal)) (fun r j => (G r j : EReal) + b r) fun j => (E j : EReal) := by
  have hS : 0 < ∑ j, E j := Finset.sum_pos (fun j _ => hE j) Finset.univ_nonempty
  obtain ⟨S, hSdef⟩ : ∃ S, S = ∑ j, E j := ⟨_, rfl⟩
  rw [← hSdef] at hS
  have lhs : mixed (fun r => (w r : EReal)) (fun r j => (G r j : EReal) + b r) (fun j => (E j : EReal)) =
      (((∑ j, (∑ r, w r * G r j) * E j) * (1 / S) : ℝ) : EReal) + ∑ r, (w r : EReal) * b r := by
    unfold mixed
    have hj : ∀ j, (∑ r, (w r : EReal) * ((G r j : EReal) + b r)) * (E j : EReal) =
        (((∑ r, w r * G r j) * E j : ℝ) : EReal) + (∑ r, (w r : EReal) * b r) * (E j : EReal) := by
      intro j
      rw [← coe_add_mul, coe_sum, ← Finset.sum_add_distrib]
      simp only [mul_coe_add]
    simp only [hj, one_mul]
    rw [Finset.sum_add_distrib, sum_const_mul _ _ _ fun j => (hE j).le, ← coe_sum, ← coe_sum, ← hSdef,
      Ideal.div_coe hS.ne', coe_add_mul, mul_assoc, ← EReal.coe_mul, mul_one_div_cancel hS.ne',
      EReal.coe_one, mul_one]
  have rhs : normed (fun r => (w r : EReal)) (fun r j => (G r j : EReal) + b r) (fun j => (E j : EReal)) =
      ((∑ r, w r * ∑ j, E j * (1 / S) * G r j : ℝ) : EReal) + ∑ r, (w r : EReal) * b r := by
    unfold normed
    beta_reduce
    rw [← coe_sum, ← hSdef, coe_sum, ← Finset.sum_add_distrib]
    refine Finset.sum_congr rfl fun r _ => ?_
    rw [← mul_coe_add]
    congr 1
    simp only [Ideal.div_coe hS.ne', ← EReal.coe_mul, mul_coe_add]
    rw [Finset.sum_add_distrib, ← coe_sum]
    congr 1
    have hp : ∀ j, (0 : ℝ) ≤ E j * (1 / S) := fun j => mul_nonneg (hE j).le (by positivity)
    simp only [mul_comm _ (b r)]
    rw [sum_const_mul _ _ _ hp, ← Finset.sum_mul, ← hSdef, mul_one_div_cancel hS.ne', EReal.coe_one,
      mul_one]
  rw [lhs, rhs]
  congr 2
  simp only [Finset.sum_mul, Finset.mul_sum]
  rw [Finset.sum_comm]
  refine Finset.sum_congr rfl fun r _ => Finset.sum_congr rfl fun j _ => ?_
  ring

/-- The whole of it for one query: from real scores, rows and weights, the two programs' ways agree. -/
theorem agree [Nonempty J] (f : J → EReal) (w : R → EReal) (g : R → J → EReal)
    (hf : ∀ j, ∃ F : ℝ, f j = F) (hw : ∀ r, ∃ W : ℝ, w r = W)
    (hg : ∃ (G : R → J → ℝ) (b : R → EReal), ∀ r j, g r j = (G r j : EReal) + b r) :
    mixed w g (pow2 f) = normed w g (expo f) := by
  choose F hF using hf
  choose W hW using hw
  obtain ⟨G, b, hG⟩ := hg
  obtain rfl : f = fun j => (F j : EReal) := funext hF
  obtain rfl : w = fun r => (W r : EReal) := funext hW
  obtain rfl : g = fun r j => (G r j : EReal) + b r := funext fun r => funext fun j => hG r j
  obtain ⟨E, hE, h1, h2⟩ := exponentials F
  rw [show pow2 (fun j => (F j : EReal)) = fun j => (E j : EReal) from funext h1,
    show expo (fun j => (F j : EReal)) = fun j => (E j : EReal) from funext h2]
  exact mixed_eq_normed W G b E hE

end Attn

namespace Attn

open Idealize.ShloMosaic

variable {J R K : Type} [Fintype J] [Fintype R] [Fintype K]

/-- A projection of one position: row `r` of the weights against the position's channels, and the bias. -/
noncomputable def proj (W : R → K → EReal) (b : R → EReal) (x : K → EReal) (r : R) : EReal :=
  (∑ k, W r k * x k) + b r

/-- The score of a query against the key `j`, from their projections. -/
noncomputable def score (q : R → EReal) (k : R → J → EReal) (j : J) : EReal := ∑ r, q r * k r j

/-- A projection by real weights of real channels is real up to the bias. -/
theorem proj_real (W : R → K → EReal) (b : R → EReal) (x : J → K → EReal)
    (hW : ∀ r k, ∃ a : ℝ, W r k = a) (hx : ∀ j k, ∃ a : ℝ, x j k = a) :
    ∃ G : R → J → ℝ, ∀ r j, proj W b (x j) r = (G r j : EReal) + b r := by
  choose V hV using hW
  choose y hy using hx
  refine ⟨fun r j => ∑ k, V r k * y j k, fun r j => ?_⟩
  unfold proj
  rw [coe_sum]
  simp only [hV, hy, EReal.coe_mul]

/-- A projection with a real bias too is real. -/
theorem proj_real' (W : R → K → EReal) (b : R → EReal) (x : J → K → EReal)
    (hW : ∀ r k, ∃ a : ℝ, W r k = a) (hb : ∀ r, ∃ a : ℝ, b r = a) (hx : ∀ j k, ∃ a : ℝ, x j k = a) (r : R) (j : J) :
    ∃ a : ℝ, proj W b (x j) r = a := by
  obtain ⟨G, hG⟩ := proj_real W b x hW hx
  obtain ⟨a, ha⟩ := hb r
  exact ⟨G r j + a, by rw [hG, ha, EReal.coe_add]⟩

/-- A score of real projections is real. -/
theorem score_real (q : R → EReal) (k : R → J → EReal) (hq : ∀ r, ∃ a : ℝ, q r = a) (hk : ∀ r j, ∃ a : ℝ, k r j = a)
    (j : J) : ∃ a : ℝ, score q k j = a := by
  choose Q hQ using hq
  choose L hL using hk
  refine ⟨∑ r, Q r * L r j, ?_⟩
  unfold score
  rw [coe_sum]
  simp only [hQ, hL, EReal.coe_mul]

end Attn
-- ==== Proof.Spec.lean ====
/-
  The two results as plain functions of the arguments' elements, and that they are equal where the arguments are real.

  An image is read by position: position `n` of 4096 is row `n / 64`, column `n % 64`.
-/
module

public import proofs.«01_k».proof.Proof.Attn
public import Idealize.ShloMosaic.Lib.ValueIdxCore

@[expose] public section

noncomputable section

open Idealize.ShloMosaic Idealize.ShloMosaic.ValueIdx Attn

namespace Spec

/-- The row of a position. -/
def row (n : Fin 4096) : Fin 64 := ⟨n.val / 64, by omega⟩
/-- The column of a position. -/
def col (n : Fin 4096) : Fin 64 := ⟨n.val % 64, by omega⟩
/-- The position of a row and a column. -/
def pos (h w : Fin 64) : Fin 4096 := ⟨h.val * 64 + w.val, by omega⟩

/-- The row of the position of a row and a column. -/
theorem row_pos (h w : Fin 64) : row (pos h w) = h := Fin.ext (by show (h.val * 64 + w.val) / 64 = h.val; omega)
/-- The column of the position of a row and a column. -/
theorem col_pos (h w : Fin 64) : col (pos h w) = w := Fin.ext (by show (h.val * 64 + w.val) % 64 = w.val; omega)

/-- The arguments by element. -/
structure Args where
  /-- image, position, channel -/
  x : Fin 4 → Fin 4096 → Fin 64 → EReal
  /-- query weights and bias -/
  Wt : Fin 16 → Fin 64 → EReal
  bt : Fin 16 → EReal
  /-- key weights and bias -/
  Wp : Fin 16 → Fin 64 → EReal
  bp : Fin 16 → EReal
  /-- value weights and bias -/
  Wg : Fin 16 → Fin 64 → EReal
  bg : Fin 16 → EReal
  /-- output weights and bias -/
  Wo : Fin 64 → Fin 16 → EReal
  bo : Fin 64 → EReal

/-- The arguments by element, from the arrays. -/
def Args.of (vid : (⟨4, ![4, 64, 64, 64]⟩ : Shape).Idx → EReal) (Wt : (⟨2, ![16, 64]⟩ : Shape).Idx → EReal)
    (bt : (⟨1, ![16]⟩ : Shape).Idx → EReal) (Wp : (⟨2, ![16, 64]⟩ : Shape).Idx → EReal)
    (bp : (⟨1, ![16]⟩ : Shape).Idx → EReal) (Wg : (⟨2, ![16, 64]⟩ : Shape).Idx → EReal)
    (bg : (⟨1, ![16]⟩ : Shape).Idx → EReal) (Wo : (⟨2, ![64, 16]⟩ : Shape).Idx → EReal)
    (bo : (⟨1, ![64]⟩ : Shape).Idx → EReal) : Args where
  x i n k := vid (ix4 i k (row n) (col n))
  Wt r k := Wt (ix2 r k)
  bt r := bt (ix1 r)
  Wp r k := Wp (ix2 r k)
  bp r := bp (ix1 r)
  Wg r k := Wg (ix2 r k)
  bg r := bg (ix1 r)
  Wo a r := Wo (ix2 a r)
  bo a := bo (ix1 a)

variable (A : Args)

/-- The scores of image `i`'s position `n` against every position. -/
def scores (i : Fin 4) (n : Fin 4096) : Fin 4096 → EReal :=
  score (proj A.Wt A.bt (A.x i n)) fun r j => proj A.Wp A.bp (A.x i j) r

/-- The value rows of image `i`. -/
def rows (i : Fin 4) (r : Fin 16) (j : Fin 4096) : EReal := proj A.Wg A.bg (A.x i j) r

/-- The kernel's result: powers of two, rows mixed first, divided last. -/
def kernelOut (i : Fin 4) (a : Fin 64) (n : Fin 4096) : EReal :=
  mixed (A.Wo a) (rows A i) (pow2 (scores A i n)) + A.bo a + A.x i n a

/-- The reference's result: exponentials divided first, rows mixed last. -/
def refOut (i : Fin 4) (a : Fin 64) (n : Fin 4096) : EReal :=
  normed (A.Wo a) (rows A i) (expo (scores A i n)) + A.bo a + A.x i n a

/-- What the precondition gives: all arguments but the value bias and the output bias are real. -/
structure Real : Prop where
  x : ∀ i n k, ∃ a : ℝ, A.x i n k = a
  Wt : ∀ r k, ∃ a : ℝ, A.Wt r k = a
  bt : ∀ r, ∃ a : ℝ, A.bt r = a
  Wp : ∀ r k, ∃ a : ℝ, A.Wp r k = a
  bp : ∀ r, ∃ a : ℝ, A.bp r = a
  Wg : ∀ r k, ∃ a : ℝ, A.Wg r k = a
  Wo : ∀ c r, ∃ a : ℝ, A.Wo c r = a

/-- On such arguments the two results are equal, element by element. -/
theorem kernelOut_eq_refOut (h : Real A) (i : Fin 4) (a : Fin 64) (n : Fin 4096) :
    kernelOut A i a n = refOut A i a n := by
  unfold kernelOut refOut
  rw [agree (scores A i n) (A.Wo a) (rows A i)
    (fun j => score_real _ _ (fun r => proj_real' A.Wt A.bt (fun _ : Fin 1 => A.x i n) h.Wt h.bt (fun _ => h.x i n) r 0)
      (fun r j => proj_real' A.Wp A.bp (A.x i) h.Wp h.bp (h.x i) r j) j)
    (h.Wo a)
    (by
      obtain ⟨G, hG⟩ := proj_real A.Wg A.bg (A.x i) h.Wg (h.x i)
      exact ⟨G, A.bg, hG⟩)]

end Spec
-- ==== Proof.Blocks.lean ====
/-
  What each input block of the kernel holds, read at an index, in terms of the arguments' elements. Point `t` of the grid
  works on image `t / 4` and on query block `t % 4`.
-/
module

public import proofs.«01_k».proof.Proof.Spec
public import proofs.«01_k».proof.Proof.Gen.KernelIdeal.Frame
public import Idealize.ShloMosaic.Lib.Pipeline.Value
public import Idealize.ShloMosaic.Lib.Claim
public import Idealize.ShloMosaic.Lib.ValueIdx
public import Idealize.ShloMosaic.Lib.IdealHost

@[expose] public section

noncomputable section

open Idealize.ShloMosaic Idealize.ShloMosaic.ValueIdx Idealize.ShloMosaic.TcCoe

namespace Cert.KernelIdeal.Blocks

open Cert.KernelIdeal Cert.KernelIdeal.Gen Spec

variable (m : (ℓ : Loc nD τ sig) → Buf (Elt Ideal) ℓ) (c : Dev nD)

/-- The arguments of a launch, by element. -/
def args : Args :=
  Args.of (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-! ## Points -/

/-- The grid has sixteen points. -/
theorem lt_points (t : Fin cfg0.N) : t.val < 16 := lt_of_lt_of_eq t.isLt N_0

/-- The image a point works on. -/
def img (n : ℕ) (hn : n < 16) : Fin 4 := ⟨n / 4, by omega⟩

/-- The position of element `q` of a point's query block. -/
def place (n : ℕ) (q : Fin 1024) : Fin 4096 := ⟨n % 4 * 1024 + q.val, by omega⟩

/-- Window 0's block index at a point: the image. -/
theorem index0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)

/-- Window 1's block index at a point: the image and the query block. -/
theorem index1 : ∀ t : Fin cfg0.N, win0_1.index t 0 = t.val / 4 ∧ win0_1.index t 1 = 0 ∧ win0_1.index t 2 = t.val % 4 :=
  (by decide +kernel :
    ∀ t : Fin grid0.N, win0_1.index t 0 = t.val / 4 ∧ win0_1.index t 1 = 0 ∧ win0_1.index t 2 = t.val % 4)

/-! ## The arrays when the grid starts -/

/-- The images with their positions flattened. -/
theorem images (i : Fin 4) (k : Fin 64) (n : Fin 4096) :
    (V m c main_v0 : Vec Ideal S4x64x4096 .f32) (ix3 i k n) = (args m c).x i n k := by
  entry_read
  refine shapeCast_apply _ _ _ (ix4 i k (row n) (col n)) ?_
  show (S4x64x64x64.rowMajor (ix4 i k (row n) (col n))).val = (S4x64x4096.rowMajor (ix3 i k n)).val
  rw [Shape.rowMajor_val_four, Shape.rowMajor_val_three]
  show ((i.val * 64 + k.val) * 64 + n.val / 64) * 64 + n.val % 64 = (i.val * 64 + k.val) * 4096 + n.val
  omega

/-- A bias as a column. -/
theorem column (b : FVec Ideal S16 .f32) (r : Fin 16) : shapeCast S16x1 b shapeCasts_S16_S16x1 (ix2 r 0) = b (ix1 r) := by
  refine shapeCast_apply _ _ _ (ix1 r) ?_
  rw [Shape.rowMajor_val_one, Shape.rowMajor_val_two]
  show r.val = r.val * 1 + 0
  omega

/-- The output bias as a column. -/
theorem column_out (b : FVec Ideal S64 .f32) (r : Fin 64) :
    shapeCast S64x1 b shapeCasts_S64_S64x1 (ix2 r 0) = b (ix1 r) := by
  refine shapeCast_apply _ _ _ (ix1 r) ?_
  rw [Shape.rowMajor_val_one, Shape.rowMajor_val_two]
  show r.val = r.val * 1 + 0
  omega

/-! ## The blocks -/

variable (t : Fin cfg0.N)

/-- Window 0: the point's whole image. -/
theorem whole (k : Fin 64) (j : Fin 4096) :
    (iblk m c 0 t : Vec Ideal S1x64x4096 .f32) (ix3 0 k j) = (args m c).x (img t.val (lt_points t)) j k := by
  rw [← images]
  show V m c main_v0 (((cfg0.win 0).blk t).view.emb (ix3 0 k j)) = _
  refine congrArg (V m c main_v0) ?_
  obtain ⟨h0, h1, h2⟩ := index0 t
  funext a; apply Fin.ext
  match a with
  | ⟨0, _⟩ => show win0_0.index t 0 * 1 + 1 * 0 = t.val / 4; omega
  | ⟨1, _⟩ => show win0_0.index t 1 * 64 + 1 * k.val = k.val; omega
  | ⟨2, _⟩ => show win0_0.index t 2 * 4096 + 1 * j.val = j.val; omega

/-- Window 1: the point's query block of its image. -/
theorem query (k : Fin 64) (q : Fin 1024) :
    (iblk m c 1 t : Vec Ideal S1x64x1024 .f32) (ix3 0 k q) =
      (args m c).x (img t.val (lt_points t)) (place t.val q) k := by
  rw [← images]
  show V m c main_v0 (((cfg0.win 1).blk t).view.emb (ix3 0 k q)) = _
  refine congrArg (V m c main_v0) ?_
  obtain ⟨h0, h1, h2⟩ := index1 t
  funext a; apply Fin.ext
  match a with
  | ⟨0, _⟩ => show win0_1.index t 0 * 1 + 1 * 0 = t.val / 4; omega
  | ⟨1, _⟩ => show win0_1.index t 1 * 64 + 1 * k.val = k.val; omega
  | ⟨2, _⟩ => show win0_1.index t 2 * 1024 + 1 * q.val = t.val % 4 * 1024 + q.val; omega

/-- Window 2: the query weights. -/
theorem query_weights (r : Fin 16) (k : Fin 64) :
    (iblk m c 2 t : Vec Ideal S16x64 .f32) (ix2 r k) = (args m c).Wt r k := by
  show V m c main_arg1 (((cfg0.win 2).blk t).view.emb (ix2 r k)) = _
  rw [V_main_arg1]
  exact congrArg (m ((c.tc : Thread nD τ).loc main_arg1)) (Shape.idx_ext₂
    ((cfg0.win 2).rect_emb_val_of_index_zero t 0 rfl (ix2 r k)) ((cfg0.win 2).rect_emb_val_of_index_zero t 1 rfl (ix2 r k)))

/-- Window 3: the query bias. -/
theorem query_bias (r : Fin 16) : (iblk m c 3 t : Vec Ideal S16x1 .f32) (ix2 r 0) = (args m c).bt r := by
  show V m c main_v1 (((cfg0.win 3).blk t).view.emb (ix2 r 0)) = _
  entry_read
  refine (congrArg (shapeCast S16x1 _ _) (Shape.idx_ext₂
    ((cfg0.win 3).rect_emb_val_of_index_zero t 0 rfl (ix2 r 0))
    ((cfg0.win 3).rect_emb_val_of_index_zero t 1 rfl (ix2 r 0)))).trans ?_
  exact column _ r

/-- Window 4: the key weights. -/
theorem key_weights (r : Fin 16) (k : Fin 64) :
    (iblk m c 4 t : Vec Ideal S16x64 .f32) (ix2 r k) = (args m c).Wp r k := by
  show V m c main_arg3 (((cfg0.win 4).blk t).view.emb (ix2 r k)) = _
  rw [V_main_arg3]
  exact congrArg (m ((c.tc : Thread nD τ).loc main_arg3)) (Shape.idx_ext₂
    ((cfg0.win 4).rect_emb_val_of_index_zero t 0 rfl (ix2 r k)) ((cfg0.win 4).rect_emb_val_of_index_zero t 1 rfl (ix2 r k)))

/-- Window 5: the key bias. -/
theorem key_bias (r : Fin 16) : (iblk m c 5 t : Vec Ideal S16x1 .f32) (ix2 r 0) = (args m c).bp r := by
  show V m c main_v2 (((cfg0.win 5).blk t).view.emb (ix2 r 0)) = _
  entry_read
  refine (congrArg (shapeCast S16x1 _ _) (Shape.idx_ext₂
    ((cfg0.win 5).rect_emb_val_of_index_zero t 0 rfl (ix2 r 0))
    ((cfg0.win 5).rect_emb_val_of_index_zero t 1 rfl (ix2 r 0)))).trans ?_
  exact column _ r

/-- Window 6: the value weights. -/
theorem value_weights (r : Fin 16) (k : Fin 64) :
    (iblk m c 6 t : Vec Ideal S16x64 .f32) (ix2 r k) = (args m c).Wg r k := by
  show V m c main_arg5 (((cfg0.win 6).blk t).view.emb (ix2 r k)) = _
  rw [V_main_arg5]
  exact congrArg (m ((c.tc : Thread nD τ).loc main_arg5)) (Shape.idx_ext₂
    ((cfg0.win 6).rect_emb_val_of_index_zero t 0 rfl (ix2 r k)) ((cfg0.win 6).rect_emb_val_of_index_zero t 1 rfl (ix2 r k)))

/-- Window 7: the value bias. -/
theorem value_bias (r : Fin 16) : (iblk m c 7 t : Vec Ideal S16x1 .f32) (ix2 r 0) = (args m c).bg r := by
  show V m c main_v3 (((cfg0.win 7).blk t).view.emb (ix2 r 0)) = _
  entry_read
  refine (congrArg (shapeCast S16x1 _ _) (Shape.idx_ext₂
    ((cfg0.win 7).rect_emb_val_of_index_zero t 0 rfl (ix2 r 0))
    ((cfg0.win 7).rect_emb_val_of_index_zero t 1 rfl (ix2 r 0)))).trans ?_
  exact column _ r

/-- Window 8: the output weights. -/
theorem out_weights (a : Fin 64) (r : Fin 16) :
    (iblk m c 8 t : Vec Ideal S64x16 .f32) (ix2 a r) = (args m c).Wo a r := by
  show V m c main_arg7 (((cfg0.win 8).blk t).view.emb (ix2 a r)) = _
  rw [V_main_arg7]
  exact congrArg (m ((c.tc : Thread nD τ).loc main_arg7)) (Shape.idx_ext₂
    ((cfg0.win 8).rect_emb_val_of_index_zero t 0 rfl (ix2 a r)) ((cfg0.win 8).rect_emb_val_of_index_zero t 1 rfl (ix2 a r)))

/-- Window 9: the output bias. -/
theorem out_bias (a : Fin 64) : (iblk m c 9 t : Vec Ideal S64x1 .f32) (ix2 a 0) = (args m c).bo a := by
  show V m c main_v4 (((cfg0.win 9).blk t).view.emb (ix2 a 0)) = _
  entry_read
  refine (congrArg (shapeCast S64x1 _ _) (Shape.idx_ext₂
    ((cfg0.win 9).rect_emb_val_of_index_zero t 0 rfl (ix2 a 0))
    ((cfg0.win 9).rect_emb_val_of_index_zero t 1 rfl (ix2 a 0)))).trans ?_
  exact column_out _ a

end Cert.KernelIdeal.Blocks
-- ==== Proof.Dot.lean ====
module

public import Idealize.ShloMosaic.PureOps.Ideal.Laws
public import Idealize.ShloMosaic.Lib.ValueIdxCore

/-! # A product over one contracted axis, read at an index

Both the kernel's products and the reference's contract one axis. Given the two operand positions `L k`
and `R k` that an output position reads at the contracted coordinate `k`, the product there is the plain sum. -/

@[expose] public section

namespace Dot

open Idealize.ShloMosaic Idealize.ShloMosaic.ValueIdx

variable {sl sr so : Shape} {φ₁ φ₂ : FTy}

/-- A product that starts from zeros is the sum of the factors' products. -/
theorem kernel (d : DotDims sl sr so) (prec : Option ContractPrecision) (l : FVec Ideal sl φ₁) (r : FVec Ideal sr φ₂)
    (j : so.Idx) (n : ℕ) (hr : d.contr.rank = 1) (hs : d.contr.size ⟨0, by omega⟩ = n) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d prec l r (constant so .f32 0x00000000#32) j = ∑ k, l (L k) * r (R k) := by
  show FloatOps.matmul d prec l r (constant so .f32 0x00000000#32) j = _
  rw [Ideal.matmul_apply, ← Equiv.sum_comp (contrEquiv1 d n hr hs).symm]
  show Ideal.ofBits .f32 0x00000000#32 + _ = _
  rw [Ideal.ofBits_zero_f32, zero_add]
  exact Finset.sum_congr rfl fun k _ => by rw [hL, hR]

/-- The host's product likewise. -/
theorem host (d : DotDims sl sr so) (prec : Option ContractPrecision) (l : FVec Ideal sl φ₁) (r : FVec Ideal sr φ₂)
    (j : so.Idx) (n : ℕ) (hr : d.contr.rank = 1) (hs : d.contr.size ⟨0, by omega⟩ = n) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d prec l r j = ∑ k, l (L k) * r (R k) := by
  show FloatOps.dotGeneral d prec _ l r j = _
  rw [Ideal.dotGeneral_apply, ← Equiv.sum_comp (contrEquiv1 d n hr hs).symm]
  exact Finset.sum_congr rfl fun k _ => by rw [hL, hR]

end Dot
-- ==== Proof.Cases.lean ====
/-
  What one run of the kernel body leaves behind, in each of its two cases, as values.

  The body runs at sixteen points: four images, and for each image four blocks of 1024 query positions. At the
  first query block of an image it fills the two carried buffers, the keys `phi` (16 × 4096) and the values `go`
  (72 × 4096); at the other three it finds them as the point before left them. At every point it then writes one
  output block from the query block, the carried buffers and the weights.
-/
module

public import proofs.«01_k».proof.Defs
public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Cases

open Cert.KernelIdeal Cert.KernelIdeal.Gen

variable {F : FTy → Type} [FloatOps F] [Named F]

/-- Two zero offsets are the zero function. -/
theorem zero2 : (![0, 0] : Fin 2 → Nat) = fun _ => 0 := funext fun a => by fin_cases a <;> rfl
/-- Three zero offsets are the zero function. -/
theorem zero3 : (![0, 0, 0] : Fin 3 → Nat) = fun _ => 0 := funext fun a => by fin_cases a <;> rfl

/-- The two stores that fill the carried buffer `go`, last first: eight rows of ones at rows 64 to 71, and before
    them the projected values at rows 0 to 63. -/
abbrev goStores (x0 : Vec F S1x64x4096 .f32) (x6 : Vec F S16x64 .f32) (x7 : Vec F S16x1 .f32) (x8 : Vec F S64x16 .f32) :
    List (View.Piece (Elt F) S72x4096 .bf16) :=
  [⟨Rect.unit (s := S72x4096) ![64, 0] S8x4096.size inb_S72x4096_S8x4096_64_0, k0_pay5 (F := F)⟩,
   ⟨Rect.unit (s := S72x4096) ![0, 0] S64x4096.size inb_S72x4096_S64x4096_0_0, k0_pay4 x0 x6 x7 x8⟩]

/-- The contents the two stores leave in `go`. -/
def go (x0 : Vec F S1x64x4096 .f32) (x6 : Vec F S16x64 .f32) (x7 : Vec F S16x1 .f32) (x8 : Vec F S64x16 .f32) :
    Vec F S72x4096 .bf16 := View.canon (goStores x0 x6 x7 x8)

section
variable (c : Dev nD) (i : grid0.Coords)
  (a2 : Memref sig .tc .vmem S1x64x4096 .f32) (h2 : a2.IsWhole)
  (a3 : Memref sig .tc .vmem S1x64x1024 .f32) (h3 : a3.IsWhole)
  (a4 : Memref sig .tc .vmem S16x64 .f32) (h4 : a4.IsWhole)
  (a5 : Memref sig .tc .vmem S16x1 .f32) (h5 : a5.IsWhole)
  (a6 : Memref sig .tc .vmem S16x64 .f32) (h6 : a6.IsWhole)
  (a7 : Memref sig .tc .vmem S16x1 .f32) (h7 : a7.IsWhole)
  (a8 : Memref sig .tc .vmem S16x64 .f32) (h8 : a8.IsWhole)
  (a9 : Memref sig .tc .vmem S16x1 .f32) (h9 : a9.IsWhole)
  (a10 : Memref sig .tc .vmem S64x16 .f32) (h10 : a10.IsWhole)
  (a11 : Memref sig .tc .vmem S64x1 .f32) (h11 : a11.IsWhole)
  (a12 : Memref sig .tc .vmem S1x64x1024 .f32) (h12 : a12.IsWhole)
  (a13 : Memref sig .tc .vmem S16x4096 .bf16) (h13 : a13.IsWhole)
  (a14 : Memref sig .tc .vmem S72x4096 .bf16) (h14 : a14.IsWhole)
  (x0 : Vec F S1x64x4096 .f32) (x1 : Vec F S1x64x1024 .f32) (x2 : Vec F S16x64 .f32) (x3 : Vec F S16x1 .f32) (x4 : Vec F S16x64 .f32) (x5 : Vec F S16x1 .f32) (x6 : Vec F S16x64 .f32) (x7 : Vec F S16x1 .f32) (x8 : Vec F S64x16 .f32) (x9 : Vec F S64x1 .f32)
  (s0 : Vec F S16x4096 .bf16) (s1 : Vec F S72x4096 .bf16)

/-- At the first query block of an image the carried keys become the projection of the whole image. -/
theorem phi_A (hc : cond0_0 i) : sout0_A_0 c i a2 h2 a3 h3 a4 h4 a5 h5 a6 h6 a7 h7 a8 h8 a9 h9 a10 h10 a11 h11 a12 h12 a13 h13 a14 h14 hc x0 x1 x2 x3 x4 x5 x6 x7 x8 x9 = k0_pay3 x0 x4 x5 := by
  unfold sout0_A_0
  rw [View.read_writes_junk_eq_canon]
  unfold kernelRun0_A
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, h13.read_unread, h14.read_unread, View.ld_unit_zero (S := S16x64) zero2, View.ld_unit_zero (S := S16x1) zero2, View.ld_unit_zero (S := S64x16) zero2, View.ld_unit_zero (S := S64x1) zero2, View.ld_unit_zero (S := S16x4096) zero2, View.ld_unit_zero (S := S72x4096) zero2, View.ld_unit_zero (S := S1x64x4096) zero3, View.ld_unit_zero (S := S1x64x1024) zero3]

/-- At the first query block of an image the carried values become `go` of the whole image. -/
theorem go_A (hc : cond0_0 i) : sout0_A_1 c i a2 h2 a3 h3 a4 h4 a5 h5 a6 h6 a7 h7 a8 h8 a9 h9 a10 h10 a11 h11 a12 h12 a13 h13 a14 h14 hc x0 x1 x2 x3 x4 x5 x6 x7 x8 x9 = go x0 x6 x7 x8 := by
  unfold sout0_A_1
  rw [View.read_writes_junk_eq_canon]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h13.read_unread, h14.read_unread, View.ld_unit_zero (S := S16x64) zero2, View.ld_unit_zero (S := S16x1) zero2, View.ld_unit_zero (S := S64x16) zero2, View.ld_unit_zero (S := S64x1) zero2, View.ld_unit_zero (S := S16x4096) zero2, View.ld_unit_zero (S := S72x4096) zero2, View.ld_unit_zero (S := S1x64x4096) zero3, View.ld_unit_zero (S := S1x64x1024) zero3]
  rfl

/-- At the first query block of an image the output block is computed from the buffers just filled. -/
theorem out_A (hc : cond0_0 i) : out0_A_10 c i a2 h2 a3 h3 a4 h4 a5 h5 a6 h6 a7 h7 a8 h8 a9 h9 a10 h10 a11 h11 a12 h12 a13 h13 a14 h14 hc x0 x1 x2 x3 x4 x5 x6 x7 x8 x9
    = k0_pay1 (k0_pay6 x1 x2 x3 (k0_pay3 x0 x4 x5) (go x0 x6 x7 x8) x9) := by
  unfold out0_A_10
  rw [View.read_writes_junk_eq_canon]
  unfold kernelRun0_A
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread, h13.read_unread, h14.read_unread, View.ld_unit_zero (S := S16x64) zero2, View.ld_unit_zero (S := S16x1) zero2, View.ld_unit_zero (S := S64x16) zero2, View.ld_unit_zero (S := S64x1) zero2, View.ld_unit_zero (S := S16x4096) zero2, View.ld_unit_zero (S := S72x4096) zero2, View.ld_unit_zero (S := S1x64x4096) zero3, View.ld_unit_zero (S := S1x64x1024) zero3, View.readCov_eq_canon']
  rw [View.canon_unit_zero zero2]
  have e1 : ∀ X : Vec F S16x4096 .bf16, (fun j => X ((Rect.unit (s := S16x4096) ![0, 0] S16x4096.size inb_S16x4096_S16x4096_0_0).toLoadRect.idx j)) = X :=
    fun X => View.ld_unit_zero zero2 _ X
  have e2 : ∀ X : Vec F S72x4096 .bf16, (fun j => X ((Rect.unit (s := S72x4096) ![0, 0] S72x4096.size inb_S72x4096_S72x4096_0_0).toLoadRect.idx j)) = X :=
    fun X => View.ld_unit_zero zero2 _ X
  rw [e1, e2]
  rfl

/-- At the other query blocks the output block is computed from the buffers as they were carried in. -/
theorem out_B (hc : ¬cond0_0 i) : out0_B_10 c i a2 h2 a3 h3 a4 h4 a5 h5 a6 h6 a7 h7 a8 h8 a9 h9 a10 h10 a11 h11 a12 h12 a13 h13 a14 h14 hc x0 x1 x2 x3 x4 x5 x6 x7 x8 x9 s0 s1
    = k0_pay1 (k0_pay6 x1 x2 x3 s0 s1 x9) := by
  unfold out0_B_10
  rw [View.read_writes_junk_eq_canon]
  unfold kernelRun0_B
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread, h13.read_unread, h14.read_unread, View.ld_unit_zero (S := S16x64) zero2, View.ld_unit_zero (S := S16x1) zero2, View.ld_unit_zero (S := S64x16) zero2, View.ld_unit_zero (S := S64x1) zero2, View.ld_unit_zero (S := S16x4096) zero2, View.ld_unit_zero (S := S72x4096) zero2, View.ld_unit_zero (S := S1x64x4096) zero3, View.ld_unit_zero (S := S1x64x1024) zero3]

/-- At the other query blocks the carried keys stay as they were. -/
theorem phi_B (hc : ¬cond0_0 i) : sout0_B_0 c i a2 h2 a3 h3 a4 h4 a5 h5 a6 h6 a7 h7 a8 h8 a9 h9 a10 h10 a11 h11 a12 h12 a13 h13 a14 h14 hc x0 x1 x2 x3 x4 x5 x6 x7 x8 x9 s0 s1 = s0 := by
  rfl

/-- At the other query blocks the carried values stay as they were. -/
theorem go_B (hc : ¬cond0_0 i) : sout0_B_1 c i a2 h2 a3 h3 a4 h4 a5 h5 a6 h6 a7 h7 a8 h8 a9 h9 a10 h10 a11 h11 a12 h12 a13 h13 a14 h14 hc x0 x1 x2 x3 x4 x5 x6 x7 x8 x9 s0 s1 = s1 := by
  rfl

end

end Cert.KernelIdeal.Cases

end
-- ==== Proof.Payload.lean ====
/-
  What the kernel body computes, read at an index, over the extended reals: the carried keys, the carried values with
  their row of ones, and the output block.
-/
module

public import proofs.«01_k».proof.Proof.Attn
public import proofs.«01_k».proof.Proof.Dot
public import proofs.«01_k».proof.Proof.Cases
public import Idealize.ShloMosaic.Lib.ValueIdx
public import Idealize.ShloMosaic.Lib.IdealHost

@[expose] public section

noncomputable section

open Idealize.ShloMosaic Idealize.ShloMosaic.ValueIdx

namespace Cert.KernelIdeal.Payload

open Cert.KernelIdeal Cert.KernelIdeal.Gen Attn

/-- Minus infinity's bits are the least extended real. -/
theorem ninf : Ideal.ofBits .f32 0xFF800000#32 = ⊥ := by simp [Ideal.ofBits, Ideal.ieee]

/-! ## The products -/

/-- A projection of the whole image: 16 × 64 against 64 × 4096. -/
theorem dot_whole (l : FVec Ideal S16x64 .bf16) (r : FVec Ideal S64x4096 .bf16) (a : Fin 16) (b : Fin 4096) :
    matmul dot_S16x64_S64x4096_S16x4096_1_0_0_1_n_n none l r (constant S16x4096 .f32 0x00000000#32) (ix2 a b) =
      ∑ k : Fin 64, l (ix2 a k) * r (ix2 k b) := by
  refine Dot.kernel _ _ l r _ 64 rfl rfl (fun k => ix2 a k) (fun k => ix2 k b) (fun k => ?_) fun k => ?_ <;>
    (funext x; apply Fin.ext; match x with | ⟨0, _⟩ => ?_ | ⟨1, _⟩ => ?_) <;>
    first | rfl | exact contrEquiv1_symm_val dot_S16x64_S64x4096_S16x4096_1_0_0_1_n_n 64 rfl rfl k

/-- The values mixed by the output weights: 64 × 16 against 16 × 4096. -/
theorem dot_mix (l : FVec Ideal S64x16 .bf16) (r : FVec Ideal S16x4096 .bf16) (a : Fin 64) (b : Fin 4096) :
    matmul dot_S64x16_S16x4096_S64x4096_1_0_0_1_n_n none l r (constant S64x4096 .f32 0x00000000#32) (ix2 a b) =
      ∑ k : Fin 16, l (ix2 a k) * r (ix2 k b) := by
  refine Dot.kernel _ _ l r _ 16 rfl rfl (fun k => ix2 a k) (fun k => ix2 k b) (fun k => ?_) fun k => ?_ <;>
    (funext x; apply Fin.ext; match x with | ⟨0, _⟩ => ?_ | ⟨1, _⟩ => ?_) <;>
    first | rfl | exact contrEquiv1_symm_val dot_S64x16_S16x4096_S64x4096_1_0_0_1_n_n 16 rfl rfl k

/-- A projection of the query block: 16 × 64 against 64 × 1024. -/
theorem dot_query (l : FVec Ideal S16x64 .bf16) (r : FVec Ideal S64x1024 .bf16) (a : Fin 16) (b : Fin 1024) :
    matmul dot_S16x64_S64x1024_S16x1024_1_0_0_1_n_n none l r (constant S16x1024 .f32 0x00000000#32) (ix2 a b) =
      ∑ k : Fin 64, l (ix2 a k) * r (ix2 k b) := by
  refine Dot.kernel _ _ l r _ 64 rfl rfl (fun k => ix2 a k) (fun k => ix2 k b) (fun k => ?_) fun k => ?_ <;>
    (funext x; apply Fin.ext; match x with | ⟨0, _⟩ => ?_ | ⟨1, _⟩ => ?_) <;>
    first | rfl | exact contrEquiv1_symm_val dot_S16x64_S64x1024_S16x1024_1_0_0_1_n_n 64 rfl rfl k

/-- The scores: both operands contract their rows. -/
theorem dot_score (l : FVec Ideal S16x1024 .bf16) (r : FVec Ideal S16x4096 .bf16) (a : Fin 1024) (b : Fin 4096) :
    matmul dot_S16x1024_S16x4096_S1024x4096_0_0_1_1_n_n none l r (constant S1024x4096 .f32 0x00000000#32) (ix2 a b) =
      ∑ k : Fin 16, l (ix2 k a) * r (ix2 k b) := by
  refine Dot.kernel _ _ l r _ 16 rfl rfl (fun k => ix2 k a) (fun k => ix2 k b) (fun k => ?_) fun k => ?_ <;>
    (funext x; apply Fin.ext; match x with | ⟨0, _⟩ => ?_ | ⟨1, _⟩ => ?_) <;>
    first | rfl | exact contrEquiv1_symm_val dot_S16x1024_S16x4096_S1024x4096_0_0_1_1_n_n 16 rfl rfl k

/-- The values against the exponentials: both operands contract their columns. -/
theorem dot_value (l : FVec Ideal S72x4096 .bf16) (r : FVec Ideal S1024x4096 .bf16) (a : Fin 72) (b : Fin 1024) :
    matmul dot_S72x4096_S1024x4096_S72x1024_1_1_0_0_n_n none l r (constant S72x1024 .f32 0x00000000#32) (ix2 a b) =
      ∑ k : Fin 4096, l (ix2 a k) * r (ix2 b k) := by
  refine Dot.kernel _ _ l r _ 4096 rfl rfl (fun k => ix2 a k) (fun k => ix2 b k) (fun k => ?_) fun k => ?_ <;>
    (funext x; apply Fin.ext; match x with | ⟨0, _⟩ => ?_ | ⟨1, _⟩ => ?_) <;>
    first | rfl | exact contrEquiv1_symm_val dot_S72x4096_S1024x4096_S72x1024_1_1_0_0_n_n 4096 rfl rfl k

/-! ## Layout -/

/-- A column spread along 4096 positions. -/
theorem col_whole (x : FVec Ideal S16x1 .f32) (r : Fin 16) (j : Fin 4096) :
    broadcastTo S16x4096 (shapeCast S16x1 x shapeCasts_S16x1_S16x1) broadcasts_S16x1_S16x4096 (ix2 r j) = x (ix2 r 0) := by
  rw [shapeCast_self]
  exact broadcastTo_apply _ _ _ _ fun a => by match a with | ⟨0, _⟩ => rfl | ⟨1, _⟩ => rfl

/-- A column spread along 1024 positions. -/
theorem col_query (x : FVec Ideal S16x1 .f32) (r : Fin 16) (j : Fin 1024) :
    broadcastTo S16x1024 (shapeCast S16x1 x shapeCasts_S16x1_S16x1) broadcasts_S16x1_S16x1024 (ix2 r j) = x (ix2 r 0) := by
  rw [shapeCast_self]
  exact broadcastTo_apply _ _ _ _ fun a => by match a with | ⟨0, _⟩ => rfl | ⟨1, _⟩ => rfl

/-- The output bias spread along 1024 positions. -/
theorem col_out (x : FVec Ideal S64x1 .f32) (r : Fin 64) (j : Fin 1024) :
    broadcastTo S64x1024 (shapeCast S64x1 x shapeCasts_S64x1_S64x1) broadcasts_S64x1_S64x1024 (ix2 r j) = x (ix2 r 0) := by
  rw [shapeCast_self]
  exact broadcastTo_apply _ _ _ _ fun a => by match a with | ⟨0, _⟩ => rfl | ⟨1, _⟩ => rfl

/-- An image without its unit axis. -/
theorem flat_whole (x : FVec Ideal S1x64x4096 .f32) (k : Fin 64) (j : Fin 4096) :
    k0_pay2 (F := Ideal) x (ix2 k j) = x (ix3 0 k j) := by
  show shapeCast S64x4096 x shapeCasts_S1x64x4096_S64x4096 (ix2 k j) = _
  refine shapeCast_apply _ _ _ _ ?_
  rw [Shape.rowMajor_val_three, Shape.rowMajor_val_two]
  simp

/-- A query block without its unit axis. -/
theorem flat_query (x : FVec Ideal S1x64x1024 .f32) (k : Fin 64) (j : Fin 1024) :
    shapeCast S64x1024 x shapeCasts_S1x64x1024_S64x1024 (ix2 k j) = x (ix3 0 k j) := by
  refine shapeCast_apply _ _ _ _ ?_
  rw [Shape.rowMajor_val_three, Shape.rowMajor_val_two]
  simp

/-- A query block with its unit axis put back. -/
theorem block_query (x : FVec Ideal S64x1024 .f32) (k : Fin 64) (j : Fin 1024) :
    k0_pay1 (F := Ideal) x (ix3 0 k j) = x (ix2 k j) := by
  show shapeCast S1x64x1024 x shapeCasts_S64x1024_S1x64x1024 (ix3 0 k j) = _
  refine shapeCast_apply _ _ _ _ ?_
  rw [Shape.rowMajor_val_three, Shape.rowMajor_val_two]
  simp

/-! ## The carried buffers -/

/-- The carried keys are the projection of every position of the image. -/
theorem phi_at (x : FVec Ideal S1x64x4096 .f32) (W : FVec Ideal S16x64 .f32) (b : FVec Ideal S16x1 .f32) (r : Fin 16)
    (j : Fin 4096) :
    k0_pay3 (F := Ideal) x W b (ix2 r j) =
      proj (fun r k => W (ix2 r k)) (fun r => b (ix2 r 0)) (fun k => x (ix3 0 k j)) r := by
  unfold k0_pay3 proj
  dsimp only
  rw [shapeCast_self]
  show matmul _ none (truncf .bf16 W bitsLt_bf16_f32) (k0_pay2 (F := Ideal) x) _ (ix2 r j) + broadcastTo _ _ _ (ix2 r j) = _
  rw [dot_whole, col_whole]
  simp only [flat_whole]
  rfl

/-- The mixed values, row by row, at every position of the image. -/
theorem mixed_at (x : FVec Ideal S1x64x4096 .f32) (W : FVec Ideal S16x64 .f32) (b : FVec Ideal S16x1 .f32)
    (Wo : FVec Ideal S64x16 .f32) (a : Fin 64) (j : Fin 4096) :
    k0_pay4 (F := Ideal) x W b Wo (ix2 a j) = ∑ r : Fin 16, Wo (ix2 a r) *
      proj (fun r k => W (ix2 r k)) (fun r => b (ix2 r 0)) (fun k => x (ix3 0 k j)) r := by
  unfold k0_pay4
  rw [shapeCast_self]
  show matmul _ none (truncf .bf16 Wo bitsLt_bf16_f32) _ _ (ix2 a j) = _
  rw [dot_mix]
  refine Finset.sum_congr rfl fun r _ => ?_
  show Wo (ix2 a r) * (matmul _ none (truncf .bf16 W bitsLt_bf16_f32) (k0_pay2 (F := Ideal) x) _ (ix2 r j) + broadcastTo _ _ _ (ix2 r j)) = _
  rw [dot_whole, col_whole]
  simp only [flat_whole]
  rfl

/-- Rows 0 to 63 of the carried values are the mixed values. -/
theorem go_row (x : FVec Ideal S1x64x4096 .f32) (W : FVec Ideal S16x64 .f32) (b : FVec Ideal S16x1 .f32)
    (Wo : FVec Ideal S64x16 .f32) (a : Fin 72) (a' : Fin 64) (h : a'.val = a.val) (j : Fin 4096) :
    Cases.go (F := Ideal) x W b Wo (ix2 a j) = k0_pay4 (F := Ideal) x W b Wo (ix2 a' j) := by
  unfold Cases.go Cases.goStores
  rw [View.canon_cons_of_not_mem]
  · rw [show (ix2 a j : S72x4096.Idx) =
      (Rect.unit (s := S72x4096) ![0, 0] S64x4096.size inb_S72x4096_S64x4096_0_0).emb (ix2 a' j) from ?_]
    · rw [View.canon_cons_emb]
    · refine Shape.idx_ext₂ ?_ ?_
      · show a.val = 0 + 1 * a'.val
        omega
      · show j.val = 0 + 1 * j.val
        omega
  · rw [Rect.mem_set_unit]
    intro hh
    have := (hh 0).1
    have h2 : (64 : ℕ) ≤ a.val := this
    omega

/-- Row 64 of the carried values is one everywhere. -/
theorem go_ones (x : FVec Ideal S1x64x4096 .f32) (W : FVec Ideal S16x64 .f32) (b : FVec Ideal S16x1 .f32)
    (Wo : FVec Ideal S64x16 .f32) (j : Fin 4096) :
    Cases.go (F := Ideal) x W b Wo (ix2 64 j) = 1 := by
  unfold Cases.go Cases.goStores
  rw [show (ix2 64 j : S72x4096.Idx) =
      (Rect.unit (s := S72x4096) ![64, 0] S8x4096.size inb_S72x4096_S8x4096_64_0).emb (ix2 (0 : Fin 8) j) from ?_]
  · rw [View.canon_cons_emb]
    unfold k0_pay5
    rw [shapeCast_self]
    exact Ideal.ofBits_one_bf16
  · refine Shape.idx_ext₂ ?_ ?_
    · rfl
    · show j.val = 0 + 1 * j.val
      omega

/-! ## The output block -/

/-- The kernel's named constant is the scale. -/
theorem named_scale : Named.named (F := Ideal) κ "ten_log2e" (φ := .f32) 0x4166D4CA#32 = scale :=
  IdealRules.named_const.ideal_named_scalar _ _ _ _ rfl

/-- A row's greatest score. -/
theorem rowmax (f : FVec Ideal S1024x4096 .f32) (q : Fin 1024) (j : Fin 4096) :
    broadcastTo S1024x4096 (shapeCast S1024x1 (multiReduction .maximumf [1] S1024 f 0xFF800000#32
      reduces_S1024x4096_S1024 (.inl rfl) rfl) shapeCasts_S1024_S1024x1) broadcasts_S1024x1_S1024x4096 (ix2 q j) =
      Finset.univ.fold max (⊥ : EReal) fun i : Fin 4096 => f (ix2 q i) := by
  rw [broadcastTo_apply _ _ _ (ix2 q (0 : Fin 1)) fun a => by match a with | ⟨0, _⟩ => rfl | ⟨1, _⟩ => rfl,
    shapeCast_apply _ _ _ (ix1 q) (by rw [Shape.rowMajor_val_one, Shape.rowMajor_val_two]; simp)]
  refine (Ideal.multiReduction_maximumf_single _ _ _ _ _ _).trans ?_
  show Finset.fold max (Ideal.ofBits .f32 0xFF800000#32) _ _ = _
  rw [ninf]
  refine congrArg (fun g => Finset.fold max (⊥ : EReal) g Finset.univ) (funext fun i => ?_)
  refine congrArg f (Shape.idx_ext₂ ?_ ?_) <;> rfl

/-- The output block: the values against the exponentials, over the row of ones against them, the bias, the input. -/
theorem out_at (xq : FVec Ideal S1x64x1024 .f32) (W : FVec Ideal S16x64 .f32) (b : FVec Ideal S16x1 .f32)
    (ph : FVec Ideal S16x4096 .bf16) (g : FVec Ideal S72x4096 .bf16) (bo : FVec Ideal S64x1 .f32) (a : Fin 64)
    (a' : Fin 72) (h : a'.val = a.val) (q : Fin 1024) :
    k0_pay1 (F := Ideal) (k0_pay6 xq W b ph g bo) (ix3 0 a q) =
      Ideal.div
        (∑ j, g (ix2 a' j) * pow2 (score (proj (fun r k => W (ix2 r k)) (fun r => b (ix2 r 0)) fun k => xq (ix3 0 k q))
          fun r j => ph (ix2 r j)) j)
        (∑ j, g (ix2 64 j) * pow2 (score (proj (fun r k => W (ix2 r k)) (fun r => b (ix2 r 0)) fun k => xq (ix3 0 k q))
          fun r j => ph (ix2 r j)) j)
      + bo (ix2 a 0) + xq (ix3 0 a q) := by
  rw [block_query]
  unfold k0_pay6
  dsimp only
  set th : FVec Ideal S16x1024 .bf16 := truncf .bf16 (addf (matmul dot_S16x64_S64x1024_S16x1024_1_0_0_1_n_n none
    (truncf .bf16 W bitsLt_bf16_f32) (truncf .bf16 (shapeCast S64x1024 xq shapeCasts_S1x64x1024_S64x1024) bitsLt_bf16_f32)
    (constant S16x1024 .f32 0x00000000#32)) (broadcastTo S16x1024 (shapeCast S16x1 b shapeCasts_S16x1_S16x1)
    broadcasts_S16x1_S16x1024)) bitsLt_bf16_f32 with hth
  have th_at : ∀ r : Fin 16, th (ix2 r q) =
      proj (fun r k => W (ix2 r k)) (fun r => b (ix2 r 0)) (fun k => xq (ix3 0 k q)) r := by
    intro r
    show matmul _ none (truncf .bf16 W bitsLt_bf16_f32) (truncf .bf16 (shapeCast S64x1024 xq _) bitsLt_bf16_f32) _ (ix2 r q)
      + broadcastTo _ _ _ (ix2 r q) = _
    rw [dot_query, col_query]
    unfold proj
    refine congrArg (· + _) (Finset.sum_congr rfl fun k _ => ?_)
    show _ * shapeCast S64x1024 xq _ (ix2 k q) = _
    rw [flat_query]
    rfl
  clear_value th
  set f : FVec Ideal S1024x4096 .f32 := matmul dot_S16x1024_S16x4096_S1024x4096_0_0_1_1_n_n none th ph
    (constant S1024x4096 .f32 0x00000000#32) with hf
  have f_at : ∀ j : Fin 4096, f (ix2 q j) = score (proj (fun r k => W (ix2 r k)) (fun r => b (ix2 r 0))
      fun k => xq (ix3 0 k q)) (fun r j => ph (ix2 r j)) j := by
    intro j
    rw [hf, dot_score]
    simp only [th_at]
    rfl
  clear_value f
  set e : FVec Ideal S1024x4096 .bf16 := truncf .bf16 (exp2 (mulf (subf f (broadcastTo S1024x4096
    (shapeCast S1024x1 (multiReduction .maximumf [1] S1024 f 0xFF800000#32 reduces_S1024x4096_S1024 (.inl rfl) rfl)
      shapeCasts_S1024_S1024x1) broadcasts_S1024x1_S1024x4096))
    (broadcast S1024x4096 (Named.named κ "ten_log2e" 0x4166D4CA#32 : Ideal .f32)))) bitsLt_bf16_f32 with he
  have e_at : ∀ j : Fin 4096, e (ix2 q j) = pow2 (score (proj (fun r k => W (ix2 r k)) (fun r => b (ix2 r 0))
      fun k => xq (ix3 0 k q)) fun r j => ph (ix2 r j)) j := by
    intro j
    show Ideal.exp2 ((f (ix2 q j) - broadcastTo S1024x4096 _ _ (ix2 q j)) * (Named.named κ "ten_log2e" 0x4166D4CA#32 : Ideal .f32)) = _
    rw [rowmax, named_scale]
    simp only [f_at]
    rfl
  clear_value e
  set o : FVec Ideal S72x1024 .f32 := matmul dot_S72x4096_S1024x4096_S72x1024_1_1_0_0_n_n none g e
    (constant S72x1024 .f32 0x00000000#32) with ho
  have o_at : ∀ a : Fin 72, o (ix2 a q) = ∑ j, g (ix2 a j) * pow2 (score (proj (fun r k => W (ix2 r k))
      (fun r => b (ix2 r 0)) fun k => xq (ix3 0 k q)) fun r j => ph (ix2 r j)) j := by
    intro a
    rw [ho, dot_value]
    simp only [e_at]
  clear_value o
  show Ideal.div (extractStridedSlice S64x1024 ![0, 0] o slices_S72x1024_o0_0_S64x1024 (ix2 a q))
    (broadcastTo S64x1024 (extractStridedSlice S1x1024 ![64, 0] o slices_S72x1024_o64_0_S1x1024) broadcasts_S1x1024_S64x1024 (ix2 a q))
    + broadcastTo S64x1024 (shapeCast S64x1 bo shapeCasts_S64x1_S64x1) broadcasts_S64x1_S64x1024 (ix2 a q)
    + shapeCast S64x1024 xq shapeCasts_S1x64x1024_S64x1024 (ix2 a q) = _
  rw [extractStridedSlice_apply _ _ _ _ (ix2 a' q) (fun x => by
      match x with
      | ⟨0, _⟩ => show a'.val = 0 + a.val; omega
      | ⟨1, _⟩ => show q.val = 0 + q.val; omega),
    broadcastTo_apply _ _ _ (ix2 (0 : Fin 1) q) fun x => by match x with | ⟨0, _⟩ => rfl | ⟨1, _⟩ => rfl,
    extractStridedSlice_apply _ _ _ _ (ix2 64 q) (fun x => by
      match x with
      | ⟨0, _⟩ => rfl
      | ⟨1, _⟩ => show q.val = 0 + q.val; omega),
    o_at, o_at, col_out, flat_query]

end Cert.KernelIdeal.Payload
-- ==== Proof.Carried.lean ====
/-
  What the kernel holds after each point of the grid: the carried keys and values are those of the point's image, and
  the output block is the image's result at the point's query positions.
-/
module

public import proofs.«01_k».proof.Proof.Blocks
public import proofs.«01_k».proof.Proof.Payload

@[expose] public section

noncomputable section

open Idealize.ShloMosaic Idealize.ShloMosaic.ValueIdx Idealize.ShloMosaic.TcCoe

namespace Cert.KernelIdeal.Carried

open Cert.KernelIdeal Cert.KernelIdeal.Gen Spec Attn Blocks

variable (m : (ℓ : Loc nD τ sig) → Buf (Elt Ideal) ℓ) (c : Dev nD)

/-- The keys of image `i`. -/
def keys (i : Fin 4) (r : Fin 16) (j : Fin 4096) : EReal :=
  proj (args m c).Wp (args m c).bp ((args m c).x i j) r

/-- The keys a point computes are those of its image. -/
theorem keys_at (t : Fin cfg0.N) (r : Fin 16) (j : Fin 4096) :
    k0_pay3 (F := Ideal) (iblk m c 0 t) (iblk m c 4 t) (iblk m c 5 t) (ix2 r j) =
      keys m c (img t.val (lt_points t)) r j := by
  refine (Payload.phi_at _ _ _ r j).trans ?_
  simp only [keys, proj, key_weights m c t, key_bias m c t, whole m c t]

/-- The value rows a point stores are its image's, mixed by the output weights. -/
theorem values_at (t : Fin cfg0.N) (a : Fin 72) (a' : Fin 64) (h : a'.val = a.val) (j : Fin 4096) :
    Cases.go (F := Ideal) (iblk m c 0 t) (iblk m c 6 t) (iblk m c 7 t) (iblk m c 8 t) (ix2 a j) =
      ∑ r, (args m c).Wo a' r * rows (args m c) (img t.val (lt_points t)) r j := by
  refine (Payload.go_row _ _ _ _ a a' h j).trans ((Payload.mixed_at _ _ _ _ a' j).trans ?_)
  simp only [rows, proj, value_weights m c t, value_bias m c t, out_weights m c t, whole m c t]

/-- What the two carried buffers hold for image `i`. -/
structure Holds (i : Fin 4) (ph : FVec Ideal S16x4096 .bf16) (g : FVec Ideal S72x4096 .bf16) : Prop where
  /-- the keys -/
  keys : ∀ r j, ph (ix2 r j) = keys m c i r j
  /-- the mixed value rows -/
  values : ∀ (a : Fin 72) (a' : Fin 64), a'.val = a.val → ∀ j, g (ix2 a j) = ∑ r, (args m c).Wo a' r * rows (args m c) i r j
  /-- the row of ones -/
  ones : ∀ j, g (ix2 64 j) = 1

/-- At the first query block of an image the carried buffers are filled for it. -/
theorem holds_first (t : Fin cfg0.N) (h0 : t.val % 4 = 0) :
    Holds m c (img t.val (lt_points t)) (outsAt0 m c t.val t.isLt).2.1 (outsAt0 m c t.val t.isLt).2.2 := by
  rw [outsAt0_A m c t h0]
  dsimp only
  rw [Cases.phi_A, Cases.go_A]
  exact ⟨keys_at m c t, values_at m c t, fun j => Payload.go_ones _ _ _ _ j⟩

/-- After every point the carried buffers hold the point's image. -/
theorem holds : ∀ (n : ℕ) (hn : n < cfg0.N),
    Holds m c (img n (lt_points ⟨n, hn⟩)) (outsAt0 m c n hn).2.1 (outsAt0 m c n hn).2.2
  | 0, hn => holds_first m c ⟨0, hn⟩ rfl
  | n + 1, hn => by
    by_cases h0 : (n + 1) % 4 = 0
    · exact holds_first m c ⟨n + 1, hn⟩ h0
    · have ih := holds n (by omega)
      have e : outsAt0 m c (n + 1) hn = _ := outsAt0_B m c ⟨n + 1, hn⟩ h0
      rw [e]
      dsimp only
      rw [Cases.phi_B, Cases.go_B]
      have hi : img (n + 1) (lt_points ⟨n + 1, hn⟩) = img n (lt_points ⟨n, by omega⟩) :=
        Fin.ext (by show (n + 1) / 4 = n / 4; omega)
      rw [hi]
      exact ih

/-- At every point the output block is computed from the carried buffers as the point leaves them. -/
theorem block_eq (t : Fin cfg0.N) : (outsAt0 m c t.val t.isLt).1 =
    k0_pay1 (F := Ideal) (k0_pay6 (iblk m c 1 t) (iblk m c 2 t) (iblk m c 3 t) (outsAt0 m c t.val t.isLt).2.1
      (outsAt0 m c t.val t.isLt).2.2 (iblk m c 9 t)) := by
  by_cases h0 : t.val % 4 = 0
  · rw [outsAt0_A m c t h0]
    dsimp only
    rw [Cases.out_A, Cases.phi_A, Cases.go_A]
  · rw [outsAt0_B m c t h0]
    dsimp only
    rw [Cases.out_B, Cases.phi_B, Cases.go_B]

/-- The output block of a point, read at an index: the result of the point's image at the query position. -/
theorem block_at (t : Fin cfg0.N) (a : Fin 64) (q : Fin 1024) :
    (outsAt0 m c t.val t.isLt).1 (ix3 0 a q) =
      kernelOut (args m c) (img t.val (lt_points t)) a (place t.val q) := by
  have H := holds m c t.val t.isLt
  rw [block_eq m c t]
  refine (Payload.out_at _ _ _ _ _ _ a ⟨a.val, by omega⟩ rfl q).trans ?_
  have hs : score (proj (fun r k => (iblk m c 2 t : Vec Ideal S16x64 .f32) (ix2 r k))
        (fun r => (iblk m c 3 t : Vec Ideal S16x1 .f32) (ix2 r 0))
        fun k => (iblk m c 1 t : Vec Ideal S1x64x1024 .f32) (ix3 0 k q))
      (fun r j => (outsAt0 m c t.val t.isLt).2.1 (ix2 r j)) =
      scores (args m c) (img t.val (lt_points t)) (place t.val q) := by
    simp only [query_weights m c t, query_bias m c t, query m c t, H.keys]
    rfl
  rw [hs, out_bias m c t, query m c t]
  simp only [H.values ⟨a.val, by omega⟩ a rfl, H.ones]
  rfl

end Cert.KernelIdeal.Carried
-- ==== Proof.Final.lean ====
/-
  The kernel's result when it has run: the array of the grid's output blocks, reshaped to the images' rows and columns,
  read at an index.
-/
module

public import proofs.«01_k».proof.Proof.Carried
public import Idealize.ShloMosaic.Lib.Pipeline.FrameSuffix

@[expose] public section

noncomputable section

open Idealize.ShloMosaic Idealize.ShloMosaic.ValueIdx Idealize.ShloMosaic.TcCoe Idealize.SL.Sem

namespace Cert.KernelIdeal.Final

open Cert.KernelIdeal Cert.KernelIdeal.Gen Spec Blocks

variable (m : (ℓ : Loc nD τ sig) → Buf (Elt Ideal) ℓ) (c : Dev nD)

/-- The output window's block index at a point: the image and the query block. -/
theorem index10 : ∀ t : Fin cfg0.N, win0_10.index t 0 = t.val / 4 ∧ win0_10.index t 1 = 0 ∧ win0_10.index t 2 = t.val % 4 :=
  (by decide +kernel :
    ∀ t : Fin grid0.N, win0_10.index t 0 = t.val / 4 ∧ win0_10.index t 1 = 0 ∧ win0_10.index t 2 = t.val % 4)

/-- Different points write different blocks. -/
theorem apart (t t' : Fin cfg0.N) (hne : t ≠ t') :
    Disjoint ((cfg0.win 10).blk t).view.set ((cfg0.win 10).blk t').view.set := by
  refine (cfg0.win 10).disjoint_blk fun h => hne (Fin.ext ?_)
  obtain ⟨h0, -, h2⟩ := index10 t
  obtain ⟨h0', -, h2'⟩ := index10 t'
  have e0 : win0_10.index t 0 = win0_10.index t' 0 := congrFun h 0
  have e2 : win0_10.index t 2 = win0_10.index t' 2 := congrFun h 2
  omega

/-- Every point writes its block back. -/
theorem written : ∀ t : Fin cfg0.N, (cfg0.win 10).flush t = true :=
  (by decide +kernel : ∀ t : Fin grid0.N, (cfg0.win 10).flush t = true)

/-- The output array at the end, by element. -/
theorem array_at (i : Fin 4) (a : Fin 64) (n : Fin 4096) :
    ((dats m 0 c).arrAt 10 cfg0.N : Vec Ideal S4x64x4096 .f32) (ix3 i a n) = kernelOut (args m c) i a n := by
  have hN : cfg0.N = 16 := N_0
  let t : Fin cfg0.N := ⟨i.val * 4 + n.val / 1024, by omega⟩
  let q : Fin 1024 := ⟨n.val % 1024, by omega⟩
  have h : ((cfg0.win 10).blk t).view.read (Elt Ideal) ((dats m 0 c).arrAt 10 cfg0.N) = (dats m 0 c).flushed 10 t :=
    (dats m 0 c).read_blk_arrAt_eq_flushed 10 (fun t t' _ _ => apart t t') cfg0.N t t.isLt (written t)
  have hf : (dats m 0 c).flushed 10 t = (cfg0.win 10).cut (grid0.coords t) (outsAt0 m c t.val t.isLt).1 := by
    show (cfg0.win 10).cut (grid0.coords t) ((dats m 0 c).after 10 t) = _
    rw [after0_10]
  have e : ((dats m 0 c).arrAt 10 cfg0.N : Vec Ideal S4x64x4096 .f32) (((cfg0.win 10).blk t).view.emb (ix3 0 a q)) =
      (outsAt0 m c t.val t.isLt).1 (ix3 0 a q) := congrFun (h.trans hf) (ix3 0 a q)
  rw [Carried.block_at] at e
  have hi : img t.val (lt_points t) = i := Fin.ext (by show (i.val * 4 + n.val / 1024) / 4 = i.val; omega)
  have hn : place t.val q = n :=
    Fin.ext (by show (i.val * 4 + n.val / 1024) % 4 * 1024 + n.val % 1024 = n.val; omega)
  rw [hi, hn] at e
  rw [← e]
  refine congrArg ((dats m 0 c).arrAt 10 cfg0.N) ?_
  obtain ⟨h0, h1, h2⟩ := index10 t
  have ht : t.val = i.val * 4 + n.val / 1024 := rfl
  funext b; apply Fin.ext
  match b with
  | ⟨0, _⟩ => show i.val = win0_10.index t 0 * 1 + 1 * 0; omega
  | ⟨1, _⟩ => show a.val = win0_10.index t 1 * 64 + 1 * a.val; omega
  | ⟨2, _⟩ => show n.val = win0_10.index t 2 * 1024 + 1 * (n.val % 1024); omega

/-- The kernel's result: the output array by rows and columns. -/
def result : Vec Ideal S4x64x64x64 .f32 :=
  shapeCast S4x64x64x64 ((dats m 0 c).arrAt 10 cfg0.N : Vec Ideal S4x64x4096 .f32) shapeCasts_S4x64x4096_S4x64x64x64

/-- The kernel's result by element. -/
theorem result_at (i : Fin 4) (a h w : Fin 64) : result m c (ix4 i a h w) = kernelOut (args m c) i a (pos h w) := by
  rw [← array_at]
  refine shapeCast_apply _ _ _ (ix3 i a (pos h w)) ?_
  show (S4x64x4096.rowMajor (ix3 i a (pos h w))).val = (S4x64x64x64.rowMajor (ix4 i a h w)).val
  rw [Shape.rowMajor_val_three, Shape.rowMajor_val_four]
  show (i.val * 64 + a.val) * 4096 + (h.val * 64 + w.val) = ((i.val * 64 + a.val) * 64 + h.val) * 64 + w.val
  omega

/-- What the lines after the grid leave in the result's buffer. -/
theorem tail_result : Pipeline.afterTail₀ cfgs (dats m) 0 (V0 m) [hostOps1] c main_v6 = result m c := by
  unfold Pipeline.afterTail₀ result
  have h := (dats m 0 c).withArrays_arrAt sharedIn0 (V0 m c) (fun w => A_eq m c w) 10
  simp only [hostOps1, List.flatten_cons, List.flatten_nil, List.append_nil]
  after_results
  rw [← h]
  rfl

variable (ρ : Dev nD → PrngReg)

/-- The idealized kernel's run: it ends, its result's buffer holds `result`, and the arguments are as they were. -/
theorem run : θ_run defs (onTc (τ := τ) (main (F := Ideal))) ⟨m, fun _ => 0, ρ⟩ (fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r h c => ⟨
      (((h c).2 main_v6 (Pipeline.mem_restRefs_of main_v6 (by decide) (by decide))).trans (tail_result m c)),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c))⟩)
    (run_main m ρ)

end Cert.KernelIdeal.Final
-- ==== Proof.Finite.lean ====
/-
  What the precondition says: every element of every argument but the value bias and the output bias is a real number.
-/
module

public import proofs.«01_k».proof.Defs
public import proofs.«01_k».proof.Proof.Blocks
public import proofs.«01_k».proof.Proof.Gen.Pre_finite
public import Idealize.ShloMosaic.Lib.ReduceAll
public import Idealize.ShloMosaic.Lib.ValueIdx

@[expose] public section

noncomputable section

open Idealize.ShloMosaic Idealize.ShloMosaic.ValueIdx Idealize.ShloMosaic.TcCoe

namespace Finite

open Spec

/-- An extended real whose absolute value compares below infinity is real. -/
theorem real_of_lt (x : Ideal .f32)
    (h : FloatOps.cmpf .olt (FloatOps.hostAbsf x) (FloatOps.ofBits (F := Ideal) .f32 0x7F800000#32) = 1#1) :
    ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  change EReal at x
  induction x using EReal.rec with
  | bot => simp [Ideal.cmp] at h
  | top => simp [Ideal.cmp] at h
  | coe a => exact ⟨a, rfl⟩

/-- One argument of the predicate: where all its comparisons hold, all its elements are real. -/
theorem real_of_all {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) h hu ix0 = 1#1) (i : s.Idx) : ∃ a : ℝ, x i = (a : EReal) :=
  real_of_lt (x i) (Host.reduce_andi_eq_one _ _ h hu ix0 e i ((eq_ix0 _).trans (eq_ix0 _).symm))

/-- Under the precondition the kernel's arguments are real. -/
theorem real (m : (ℓ : Loc Cert.KernelIdeal.nD Cert.KernelIdeal.τ Cert.KernelIdeal.sig) → Buf (Elt Ideal) ℓ)
    (hm : Cert.Pre_KernelIdeal_finite m) (c : Dev Cert.KernelIdeal.nD) :
    Real (Cert.KernelIdeal.Blocks.args m c) := by
  have h := congrFun (hm c) ix0
  unfold Cert.Pre_finite.fn Cert.Pre_finite.fn_part1 at h
  obtain ⟨h, h7⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact
    { x := fun i n k => real_of_all _ _ _ _ h0 (ix4 i k (row n) (col n))
      Wt := fun r k => real_of_all _ _ _ _ h1 (ix2 r k)
      bt := fun r => real_of_all _ _ _ _ h2 (ix1 r)
      Wp := fun r k => real_of_all _ _ _ _ h3 (ix2 r k)
      bp := fun r => real_of_all _ _ _ _ h4 (ix1 r)
      Wg := fun r k => real_of_all _ _ _ _ h5 (ix2 r k)
      Wo := fun a r => real_of_all _ _ _ _ h7 (ix2 a r) }

end Finite
-- ==== Proof.Reference.lean ====
/-
  What the reference computes, read at an index, over the extended reals: each stage of it as an array of its own, each
  read at an index, and the whole as `Spec.refOut`.
-/
module

public import proofs.«01_k».proof.Proof.Spec
public import proofs.«01_k».proof.Proof.Dot
public import proofs.«01_k».proof.Proof.Gen.ReferenceIdeal.Run
public import Idealize.ShloMosaic.Lib.Pipeline.Value
public import Idealize.ShloMosaic.Lib.ValueIdx
public import Idealize.ShloMosaic.Lib.IdealHost
public import Idealize.ShloMosaic.Lib.KernelVsHost

@[expose] public section

noncomputable section

open Idealize.ShloMosaic Idealize.ShloMosaic.ValueIdx

namespace Cert.ReferenceIdeal.Stages

open Cert.ReferenceIdeal Cert.ReferenceIdeal.Gen Attn Spec

/-! ## The products -/

/-- The reference's projection: channels contracted. -/
theorem dot_conv (l : FVec Ideal S16x64 .f32) (x : FVec Ideal S4x64x64x64 .f32) (r : Fin 16) (i : Fin 4) (h w : Fin 64) :
    Host.dotGeneral dot_S16x64_S4x64x64x64_S16x4x64x64_1_1_0_023_n_n none l x (ix4 r i h w) =
      ∑ k : Fin 64, l (ix2 r k) * x (ix4 i k h w) := by
  refine Dot.host _ _ l x _ 64 rfl rfl (fun k => ix2 r k) (fun k => ix4 i k h w) (fun k => ?_) fun k => ?_
  · funext a; apply Fin.ext
    match a with
    | ⟨0, _⟩ => rfl
    | ⟨1, _⟩ => exact contrEquiv1_symm_val dot_S16x64_S4x64x64x64_S16x4x64x64_1_1_0_023_n_n 64 rfl rfl k
  · funext a; apply Fin.ext
    match a with
    | ⟨0, _⟩ => rfl
    | ⟨1, _⟩ => exact contrEquiv1_symm_val dot_S16x64_S4x64x64x64_S16x4x64x64_1_1_0_023_n_n 64 rfl rfl k
    | ⟨2, _⟩ => rfl
    | ⟨3, _⟩ => rfl

/-- The output projection: the value rows contracted. -/
theorem dot_out (l : FVec Ideal S64x16 .f32) (x : FVec Ideal S4x16x64x64 .f32) (r : Fin 64) (i : Fin 4) (h w : Fin 64) :
    Host.dotGeneral dot_S64x16_S4x16x64x64_S64x4x64x64_1_1_0_023_n_n none l x (ix4 r i h w) =
      ∑ k : Fin 16, l (ix2 r k) * x (ix4 i k h w) := by
  refine Dot.host _ _ l x _ 16 rfl rfl (fun k => ix2 r k) (fun k => ix4 i k h w) (fun k => ?_) fun k => ?_
  · funext a; apply Fin.ext
    match a with
    | ⟨0, _⟩ => rfl
    | ⟨1, _⟩ => exact contrEquiv1_symm_val dot_S64x16_S4x16x64x64_S64x4x64x64_1_1_0_023_n_n 16 rfl rfl k
  · funext a; apply Fin.ext
    match a with
    | ⟨0, _⟩ => rfl
    | ⟨1, _⟩ => exact contrEquiv1_symm_val dot_S64x16_S4x16x64x64_S64x4x64x64_1_1_0_023_n_n 16 rfl rfl k
    | ⟨2, _⟩ => rfl
    | ⟨3, _⟩ => rfl

/-- The scores' product. -/
theorem dot_score (l : FVec Ideal S4x4096x16 .f32) (x : FVec Ideal S4x16x4096 .f32) (i : Fin 4) (n j : Fin 4096) :
    Host.dotGeneral dot_S4x4096x16_S4x16x4096_S4x4096x4096_2_1_1_2_0_0 none l x (ix3 i n j) =
      ∑ k : Fin 16, l (ix3 i n k) * x (ix3 i k j) := by
  refine Dot.host _ _ l x _ 16 rfl rfl (fun k => ix3 i n k) (fun k => ix3 i k j) (fun k => ?_) fun k => ?_
  · funext a; apply Fin.ext
    match a with
    | ⟨0, _⟩ => rfl
    | ⟨1, _⟩ => rfl
    | ⟨2, _⟩ => exact contrEquiv1_symm_val dot_S4x4096x16_S4x16x4096_S4x4096x4096_2_1_1_2_0_0 16 rfl rfl k
  · funext a; apply Fin.ext
    match a with
    | ⟨0, _⟩ => rfl
    | ⟨1, _⟩ => exact contrEquiv1_symm_val dot_S4x4096x16_S4x16x4096_S4x4096x4096_2_1_1_2_0_0 16 rfl rfl k
    | ⟨2, _⟩ => rfl

/-- The attention weights against the value rows. -/
theorem dot_attend (l : FVec Ideal S4x4096x4096 .f32) (x : FVec Ideal S4x4096x16 .f32) (i : Fin 4) (n : Fin 4096) (r : Fin 16) :
    Host.dotGeneral dot_S4x4096x4096_S4x4096x16_S4x4096x16_2_1_1_2_0_0 none l x (ix3 i n r) =
      ∑ k : Fin 4096, l (ix3 i n k) * x (ix3 i k r) := by
  refine Dot.host _ _ l x _ 4096 rfl rfl (fun k => ix3 i n k) (fun k => ix3 i k r) (fun k => ?_) fun k => ?_
  · funext a; apply Fin.ext
    match a with
    | ⟨0, _⟩ => rfl
    | ⟨1, _⟩ => rfl
    | ⟨2, _⟩ => exact contrEquiv1_symm_val dot_S4x4096x4096_S4x4096x16_S4x4096x16_2_1_1_2_0_0 4096 rfl rfl k
  · funext a; apply Fin.ext
    match a with
    | ⟨0, _⟩ => rfl
    | ⟨1, _⟩ => exact contrEquiv1_symm_val dot_S4x4096x4096_S4x4096x16_S4x4096x16_2_1_1_2_0_0 4096 rfl rfl k
    | ⟨2, _⟩ => rfl

/-! ## The stages -/

/-- A projection of the images, positions flattened. -/
def conv (W : FVec Ideal S16x64 .f32) (x : FVec Ideal S4x64x64x64 .f32) (b : FVec Ideal S16 .f32) : FVec Ideal S4x16x4096 .f32 :=
  shapeCast S4x16x4096 (addf (transpose S4x16x64x64 [1, 0, 2, 3]
      (Host.dotGeneral dot_S16x64_S4x64x64x64_S16x4x64x64_1_1_0_023_n_n none W x) transposes_S16x4x64x64_S4x16x64x64_1_0_2_3)
    (broadcastInDim S4x16x64x64 ![0, 1, 2, 3] bcast_S1x16x1x1_S4x16x64x64_0_1_2_3
      (broadcastInDim S1x16x1x1 ![1] bcast_S16_S1x16x1x1_1 b))) shapeCasts_S4x16x64x64_S4x16x4096

/-- A projection at image `i`, row `r`, position `n`. -/
theorem conv_at (W : FVec Ideal S16x64 .f32) (x : FVec Ideal S4x64x64x64 .f32) (b : FVec Ideal S16 .f32) (i : Fin 4)
    (r : Fin 16) (n : Fin 4096) : conv W x b (ix3 i r n) =
      proj (fun r k => W (ix2 r k)) (fun r => b (ix1 r)) (fun k => x (ix4 i k (row n) (col n))) r := by
  unfold conv proj
  rw [shapeCast_apply _ _ _ (ix4 i r (row n) (col n)) (by
    rw [Shape.rowMajor_val_four, Shape.rowMajor_val_three]
    show ((i.val * 16 + r.val) * 64 + n.val / 64) * 64 + n.val % 64 = (i.val * 16 + r.val) * 4096 + n.val
    omega)]
  show transpose _ _ _ _ (ix4 i r (row n) (col n)) + broadcastInDim _ _ _ _ (ix4 i r (row n) (col n)) = _
  rw [transpose_apply _ _ _ _ (ix4 r i (row n) (col n)) (fun a => by
      match a with | ⟨0, _⟩ => rfl | ⟨1, _⟩ => rfl | ⟨2, _⟩ => rfl | ⟨3, _⟩ => rfl),
    dot_conv,
    broadcastInDim_apply _ _ _ _ (ix4 (0 : Fin 1) r (0 : Fin 1) (0 : Fin 1)) (fun a => by
      match a with | ⟨0, _⟩ => rfl | ⟨1, _⟩ => rfl | ⟨2, _⟩ => rfl | ⟨3, _⟩ => rfl),
    broadcastInDim_apply _ _ _ _ (ix1 r) (fun a => by match a with | ⟨0, _⟩ => rfl)]

/-- A projection with position before row. -/
def convT (W : FVec Ideal S16x64 .f32) (x : FVec Ideal S4x64x64x64 .f32) (b : FVec Ideal S16 .f32) : FVec Ideal S4x4096x16 .f32 :=
  transpose S4x4096x16 [0, 2, 1] (conv W x b) transposes_S4x16x4096_S4x4096x16_0_2_1

/-- It reads the projection with the two swapped. -/
theorem convT_at (W : FVec Ideal S16x64 .f32) (x : FVec Ideal S4x64x64x64 .f32) (b : FVec Ideal S16 .f32) (i : Fin 4)
    (n : Fin 4096) (r : Fin 16) : convT W x b (ix3 i n r) = conv W x b (ix3 i r n) :=
  transpose_apply _ _ _ _ _ fun a => by match a with | ⟨0, _⟩ => rfl | ⟨1, _⟩ => rfl | ⟨2, _⟩ => rfl

/-- The scaled scores. -/
def scaled (th : FVec Ideal S4x4096x16 .f32) (ph : FVec Ideal S4x16x4096 .f32) : FVec Ideal S4x4096x4096 .f32 :=
  mulf (Host.dotGeneral dot_S4x4096x16_S4x16x4096_S4x4096x4096_2_1_1_2_0_0 none th ph)
    (broadcastInDim S4x4096x4096 ![] bcast_S_S4x4096x4096 (constant S_ .f32 0x41200000#32))

/-- Ten's bits are ten. -/
theorem ten : Ideal.ofBits .f32 0x41200000#32 = ((10 : ℝ) : EReal) := by
  simp [Ideal.ofBits, Ideal.ieee, -EReal.coe_mul]; norm_num

/-- Minus infinity's bits are the least extended real. -/
theorem ninf : Ideal.ofBits .f32 0xFF800000#32 = ⊥ := by simp [Ideal.ofBits, Ideal.ieee]

/-- A scaled score is ten times the score. -/
theorem scaled_at (th : FVec Ideal S4x4096x16 .f32) (ph : FVec Ideal S4x16x4096 .f32) (i : Fin 4) (n j : Fin 4096) :
    scaled th ph (ix3 i n j) = score (fun r => th (ix3 i n r)) (fun r j => ph (ix3 i r j)) j * ((10 : ℝ) : EReal) := by
  unfold scaled score
  show Host.dotGeneral (F := Ideal) _ _ th ph (ix3 i n j) *
    broadcastInDim S4x4096x4096 ![] bcast_S_S4x4096x4096 (constant (F := Ideal) S_ .f32 0x41200000#32) (ix3 i n j) = _
  rw [dot_score, broadcastInDim_scalar_apply]
  show _ * Ideal.ofBits .f32 0x41200000#32 = _
  rw [ten]

/-- The exponentials of the scaled scores less their row's greatest. -/
def expos (S : FVec Ideal S4x4096x4096 .f32) : FVec Ideal S4x4096x4096 .f32 :=
  Host.exp (subf S (broadcastInDim S4x4096x4096 ![0, 1, 2] bcast_S4x4096x1_S4x4096x4096_0_1_2
    (broadcastInDim S4x4096x1 ![0, 1] bcast_S4x4096_S4x4096x1_0_1
      (maximumf (broadcastInDim S4x4096 ![] bcast_S_S4x4096 (constant S_ .f32 0xFF800000#32))
        (Host.reduce FloatOps.maximumf S (constant S_ .f32 0xFF800000#32) reducesTo_S4x4096x4096_S4x4096_d2 h_S_)))))

/-- An array with one number per query, spread along the keys. -/
theorem spread_at (x : FVec Ideal S4x4096 .f32) (i : Fin 4) (n j : Fin 4096) :
    broadcastInDim S4x4096x4096 ![0, 1, 2] bcast_S4x4096x1_S4x4096x4096_0_1_2
      (broadcastInDim S4x4096x1 ![0, 1] bcast_S4x4096_S4x4096x1_0_1 x) (ix3 i n j) = x (ix2 i n) := by
  rw [broadcastInDim_apply _ _ _ _ (ix3 i n (0 : Fin 1)) (fun a => by
      match a with | ⟨0, _⟩ => rfl | ⟨1, _⟩ => rfl | ⟨2, _⟩ => rfl),
    broadcastInDim_apply _ _ _ _ (ix2 i n) (fun a => by match a with | ⟨0, _⟩ => rfl | ⟨1, _⟩ => rfl)]

/-- The keys' axis may be reduced away. -/
theorem reduces_keys : S4x4096x4096.Reduces [2] S4x4096 := by decide

/-- A row's greatest. -/
theorem rowmax (S : FVec Ideal S4x4096x4096 .f32) (i : Fin 4) (n : Fin 4096) :
    Host.reduce FloatOps.maximumf S (constant S_ .f32 0xFF800000#32) reducesTo_S4x4096x4096_S4x4096_d2 h_S_ (ix2 i n) =
      Finset.univ.fold max (⊥ : EReal) fun j : Fin 4096 => S (ix3 i n j) := by
  rw [hostReduce_maximumf_eq_multiReduction S 0xFF800000#32 reducesTo_S4x4096x4096_S4x4096_d2 h_S_ reduces_keys (.inl rfl) rfl]
  refine (Ideal.multiReduction_maximumf_single _ _ _ _ _ _).trans ?_
  show Finset.fold max (Ideal.ofBits .f32 0xFF800000#32) _ _ = _
  rw [ninf]
  refine congrArg (fun g => Finset.fold max (⊥ : EReal) g Finset.univ) (funext fun j => congrArg S ?_)
  funext a; apply Fin.ext
  match a with | ⟨0, _⟩ => rfl | ⟨1, _⟩ => rfl | ⟨2, _⟩ => rfl

/-- An exponential, from the scores before they are scaled. -/
theorem expos_at (S : FVec Ideal S4x4096x4096 .f32) (i : Fin 4) (n : Fin 4096) (f : Fin 4096 → EReal)
    (hS : ∀ j, S (ix3 i n j) = f j * ((10 : ℝ) : EReal)) (j : Fin 4096) : expos S (ix3 i n j) = expo f j := by
  unfold expos expo
  show Ideal.exp (S (ix3 i n j) - broadcastInDim S4x4096x4096 _ _ _ (ix3 i n j)) = _
  rw [spread_at]
  rw [ValueIdx.maximumf_apply, broadcastInDim_scalar_apply, rowmax]
  rw [show constant (F := Ideal) S_ .f32 0xFF800000#32 ix0 = ⊥ from ninf]
  simp only [hS]

/-- The attention weights: each exponential over its row's sum. -/
def attn (E : FVec Ideal S4x4096x4096 .f32) : FVec Ideal S4x4096x4096 .f32 :=
  Host.divf E (broadcastInDim S4x4096x4096 ![0, 1, 2] bcast_S4x4096x1_S4x4096x4096_0_1_2
    (broadcastInDim S4x4096x1 ![0, 1] bcast_S4x4096_S4x4096x1_0_1
      (Host.reduceAdd E (constant S_ .f32 0x00000000#32) reducesTo_S4x4096x4096_S4x4096_d2 h_S_)))

/-- An attention weight. -/
theorem attn_at (E : FVec Ideal S4x4096x4096 .f32) (i : Fin 4) (n j : Fin 4096) :
    attn E (ix3 i n j) = Ideal.div (E (ix3 i n j)) (∑ k : Fin 4096, E (ix3 i n k)) := by
  unfold attn
  rw [hostDivf_apply, spread_at, hostReduceAdd_apply, Ideal.hostReduceAdd_single _ reduces_keys]
  show Ideal.div _ (Ideal.ofBits .f32 0x00000000#32 + _) = _
  rw [Ideal.ofBits_zero_f32, zero_add]
  refine congrArg (Ideal.div _) (Finset.sum_congr rfl fun k _ => congrArg E ?_)
  funext a; apply Fin.ext
  match a with | ⟨0, _⟩ => rfl | ⟨1, _⟩ => rfl | ⟨2, _⟩ => rfl

/-- The output projection of the attended rows, its bias, and the input. -/
def finish (Wo : FVec Ideal S64x16 .f32) (y : FVec Ideal S4x4096x16 .f32) (bo : FVec Ideal S64 .f32)
    (x : FVec Ideal S4x64x64x64 .f32) : FVec Ideal S4x64x64x64 .f32 :=
  addf (addf (transpose S4x64x64x64 [1, 0, 2, 3] (Host.dotGeneral dot_S64x16_S4x16x64x64_S64x4x64x64_1_1_0_023_n_n none Wo
      (shapeCast S4x16x64x64 (transpose S4x16x4096 [0, 2, 1] y transposes_S4x4096x16_S4x16x4096_0_2_1)
        shapeCasts_S4x16x4096_S4x16x64x64)) transposes_S64x4x64x64_S4x64x64x64_1_0_2_3)
    (broadcastInDim S4x64x64x64 ![0, 1, 2, 3] bcast_S1x64x1x1_S4x64x64x64_0_1_2_3
      (broadcastInDim S1x64x1x1 ![1] bcast_S64_S1x64x1x1_1 bo))) x

/-- The result at an index. -/
theorem finish_at (Wo : FVec Ideal S64x16 .f32) (y : FVec Ideal S4x4096x16 .f32) (bo : FVec Ideal S64 .f32)
    (x : FVec Ideal S4x64x64x64 .f32) (i : Fin 4) (a h w : Fin 64) : finish Wo y bo x (ix4 i a h w) =
      (∑ r : Fin 16, Wo (ix2 a r) * y (ix3 i (pos h w) r)) + bo (ix1 a) + x (ix4 i a h w) := by
  unfold finish
  show transpose _ _ _ _ (ix4 i a h w) + broadcastInDim _ _ _ _ (ix4 i a h w) + _ = _
  rw [transpose_apply _ _ _ _ (ix4 a i h w) (fun b => by
      match b with | ⟨0, _⟩ => rfl | ⟨1, _⟩ => rfl | ⟨2, _⟩ => rfl | ⟨3, _⟩ => rfl),
    dot_out,
    broadcastInDim_apply _ _ _ _ (ix4 (0 : Fin 1) a (0 : Fin 1) (0 : Fin 1)) (fun b => by
      match b with | ⟨0, _⟩ => rfl | ⟨1, _⟩ => rfl | ⟨2, _⟩ => rfl | ⟨3, _⟩ => rfl),
    broadcastInDim_apply _ _ _ _ (ix1 a) (fun b => by match b with | ⟨0, _⟩ => rfl)]
  refine congrArg (fun s => s + _ + _) (Finset.sum_congr rfl fun r _ => congrArg (Wo (ix2 a r) * ·) ?_)
  rw [shapeCast_apply _ _ _ (ix3 i r (pos h w)) (by
      rw [Shape.rowMajor_val_four, Shape.rowMajor_val_three]
      show (i.val * 16 + r.val) * 4096 + (h.val * 64 + w.val) = ((i.val * 16 + r.val) * 64 + h.val) * 64 + w.val
      omega),
    transpose_apply _ _ _ _ (ix3 i (pos h w) r) (fun b => by
      match b with | ⟨0, _⟩ => rfl | ⟨1, _⟩ => rfl | ⟨2, _⟩ => rfl)]

/-! ## The whole -/

variable (m : (ℓ : Loc nD τ sig) → Buf (Elt Ideal) ℓ) (c : Dev nD)

/-- The arguments of a launch, by element. -/
def args : Args :=
  Args.of (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-- The reference's result is the stages composed. -/
theorem result_eq : Value.res_out0 m c =
    finish (m ((c.tc : Thread nD τ).loc main_arg7))
      (Host.dotGeneral dot_S4x4096x4096_S4x4096x16_S4x4096x16_2_1_1_2_0_0 none
        (attn (expos (scaled
          (convT (m ((c.tc : Thread nD τ).loc main_arg1)) (m ((c.tc : Thread nD τ).loc main_arg0)) (m ((c.tc : Thread nD τ).loc main_arg2)))
          (conv (m ((c.tc : Thread nD τ).loc main_arg3)) (m ((c.tc : Thread nD τ).loc main_arg0)) (m ((c.tc : Thread nD τ).loc main_arg4))))))
        (convT (m ((c.tc : Thread nD τ).loc main_arg5)) (m ((c.tc : Thread nD τ).loc main_arg0)) (m ((c.tc : Thread nD τ).loc main_arg6))))
      (m ((c.tc : Thread nD τ).loc main_arg8)) (m ((c.tc : Thread nD τ).loc main_arg0)) := by
  unfold Value.res_out0 Value.res_main_v42 finish attn expos scaled convT conv
  rfl

/-- The reference's result at an index. -/
theorem result_at (i : Fin 4) (a h w : Fin 64) :
    Value.res_out0 m c (ix4 i a h w) = refOut (args m c) i a (pos h w) := by
  rw [result_eq, finish_at]
  unfold refOut normed
  have hx : (args m c).x i (pos h w) a = m ((c.tc : Thread nD τ).loc main_arg0) (ix4 i a h w) := by
    show m ((c.tc : Thread nD τ).loc main_arg0) (ix4 i a (row (pos h w)) (col (pos h w))) = _
    rw [row_pos, col_pos]
  rw [hx]
  refine congrArg (fun s => s + (args m c).bo a + _) (Finset.sum_congr rfl fun r _ =>
    congrArg ((args m c).Wo a r * ·) ?_)
  rw [dot_attend]
  refine Finset.sum_congr rfl fun j _ => ?_
  have hE := expos_at _ i (pos h w) (scores (args m c) i (pos h w)) fun k => (by
    rw [scaled_at]
    simp only [convT_at, conv_at]
    rfl : scaled
          (convT (m ((c.tc : Thread nD τ).loc main_arg1)) (m ((c.tc : Thread nD τ).loc main_arg0)) (m ((c.tc : Thread nD τ).loc main_arg2)))
          (conv (m ((c.tc : Thread nD τ).loc main_arg3)) (m ((c.tc : Thread nD τ).loc main_arg0)) (m ((c.tc : Thread nD τ).loc main_arg4)))
          (ix3 i (pos h w) k) = _)
  rw [attn_at, convT_at, conv_at]
  simp only [hE]
  rfl

end Cert.ReferenceIdeal.Stages
-- ==== Proof.Equal.lean ====
/-
  The equation between the two programs: from memories that agree on the arguments and meet the precondition, the
  reference's result is the kernel's.
-/
module

public import proofs.«01_k».proof.Defs
public import proofs.«01_k».proof.Proof.Final
public import proofs.«01_k».proof.Proof.Finite
public import proofs.«01_k».proof.Proof.Reference

@[expose] public section

noncomputable section

open Idealize.ShloMosaic Idealize.ShloMosaic.ValueIdx Idealize.ShloMosaic.TcCoe Idealize.SL.Sem

namespace Equal

/-- The kernel's memory. -/
abbrev MemK : Type :=
  (ℓ : Loc Cert.KernelIdeal.nD Cert.KernelIdeal.τ Cert.KernelIdeal.sig) → Buf (Elt Ideal) ℓ

/-- The reference's memory. -/
abbrev MemR : Type :=
  (ℓ : Loc Cert.ReferenceIdeal.nD Cert.ReferenceIdeal.τ Cert.ReferenceIdeal.sig) → Buf (Elt Ideal) ℓ

/-- The two results are the same array when the arguments by element are the same. -/
theorem results (m : MemK) (m' : MemR) (c : Dev Cert.KernelIdeal.nD) (hm : Cert.Pre_KernelIdeal_finite m)
    (h : Cert.ReferenceIdeal.Stages.args m' c = Cert.KernelIdeal.Blocks.args m c) :
    (Cert.ReferenceIdeal.Value.res_out0 m' c : Vec Ideal ⟨4, ![4, 64, 64, 64]⟩ .f32) =
      Cert.KernelIdeal.Final.result m c := by
  funext y
  rw [eq_ix4 y]
  refine (Cert.ReferenceIdeal.Stages.result_at m' c _ _ _ _).trans ?_
  rw [h]
  exact ((Cert.KernelIdeal.Final.result_at m c _ _ _ _).trans
    (Spec.kernelOut_eq_refOut _ (Finite.real m hm c) _ _ _)).symm

/-- The algebraic claim. -/
theorem algebraic : Cert.algebraic_KernelIdeal_ReferenceIdeal_pre_finite := by
  intro m ρ m' ρ' hm hagree
  refine ⟨Cert.KernelIdeal.Final.result m, Cert.KernelIdeal.Final.run m ρ, ?_⟩
  refine (θ_run Cert.ReferenceIdeal.defs _ _).mono (fun _ h c => ⟨(h c).1.trans (results m m' c hm ?_), (h c).2⟩)
    (Cert.ReferenceIdeal.Value.run (F := Ideal) m' ρ')
  obtain ⟨h0, h1, h2, h3, h4, h5, h6, h7, h8⟩ := hagree c
  unfold Cert.ReferenceIdeal.Stages.args Cert.KernelIdeal.Blocks.args
  rw [h0, h1, h2, h3, h4, h5, h6, h7, h8]

end Equal
-- ==== Proof.lean ====
/-
  The claims about the kernel, its idealized form and the reference, put together. The two kernels' frames are the
  generated ones; the reference has no semaphores; the one renamed constant is ten over the natural logarithm of two; the
  results' equality is `Equal.algebraic`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem

/-- The reference ends with its arguments unchanged and no semaphore counter set. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the value its name stands for. -/
theorem preserves : Cert.preserves_Kernel_KernelIdeal :=
  IdealRules.named_const.statement Cert.KernelIdeal.κ "ten_log2e" .f32 0x4166D4CA#32
    ((10 * (Real.log 2)⁻¹ : ℝ) : EReal) rfl

/-- All claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    preserves, Equal.algebraic⟩

end Cert.Proof

end
